-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ThresholdReferenceIdeal (m : (ℓ : Loc Cert.ThresholdReferenceIdeal.nD Cert.ThresholdReferenceIdeal.τ Cert.ThresholdReferenceIdeal.sig) → Buf (Elt Ideal) ℓ) : Prop :=
  True

def Pre_ThresholdReferenceIdeal_inputs_in_range [hPre_inputs_in_range : Cert.Pre_inputs_in_range.Facts] (m : (ℓ : Loc Cert.ThresholdReferenceIdeal.nD Cert.ThresholdReferenceIdeal.τ Cert.ThresholdReferenceIdeal.sig) → Buf (Elt Ideal) ℓ) : Prop :=
  ∀ c : Dev Cert.ThresholdReferenceIdeal.nD,
    (Cert.Pre_inputs_in_range.fn (F := Ideal) (m ((c.tc : Thread Cert.ThresholdReferenceIdeal.nD Cert.ThresholdReferenceIdeal.τ).loc Cert.ThresholdReferenceIdeal.main_arg0)) (m ((c.tc : Thread Cert.ThresholdReferenceIdeal.nD Cert.ThresholdReferenceIdeal.τ).loc Cert.ThresholdReferenceIdeal.main_arg1))).1 = (fun _ => 1#1)
    ∧ (Cert.Pre_inputs_in_range.fn (F := Ideal) (m ((c.tc : Thread Cert.ThresholdReferenceIdeal.nD Cert.ThresholdReferenceIdeal.τ).loc Cert.ThresholdReferenceIdeal.main_arg0)) (m ((c.tc : Thread Cert.ThresholdReferenceIdeal.nD Cert.ThresholdReferenceIdeal.τ).loc Cert.ThresholdReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ThresholdReferenceIdeal [hThresholdReferenceIdeal : Cert.ThresholdReferenceIdeal.Facts] : Prop :=
  ∀ (m : (ℓ : Loc Cert.ThresholdReferenceIdeal.nD Cert.ThresholdReferenceIdeal.τ Cert.ThresholdReferenceIdeal.sig) → Buf (Elt Ideal) ℓ) (g : Dev Cert.ThresholdReferenceIdeal.nD → PrngReg), Pre_ThresholdReferenceIdeal m →
    θ_run (Cert.ThresholdReferenceIdeal.defs (F := Ideal)) (onTc (τ := Cert.ThresholdReferenceIdeal.τ) (Cert.ThresholdReferenceIdeal.main (F := Ideal))) ⟨m, fun _ => 0, g⟩ (fun r => (∀ c : Dev Cert.ThresholdReferenceIdeal.nD,
      r.2.mem ((c.tc : Thread Cert.ThresholdReferenceIdeal.nD Cert.ThresholdReferenceIdeal.τ).loc Cert.ThresholdReferenceIdeal.main_arg0) = m ((c.tc : Thread Cert.ThresholdReferenceIdeal.nD Cert.ThresholdReferenceIdeal.τ).loc Cert.ThresholdReferenceIdeal.main_arg0)
      ∧ r.2.mem ((c.tc : Thread Cert.ThresholdReferenceIdeal.nD Cert.ThresholdReferenceIdeal.τ).loc Cert.ThresholdReferenceIdeal.main_arg1) = m ((c.tc : Thread Cert.ThresholdReferenceIdeal.nD Cert.ThresholdReferenceIdeal.τ).loc Cert.ThresholdReferenceIdeal.main_arg1))
      ∧ r.2.sem = fun _ => 0)

def quiescent_ThresholdReferenceIdeal_pre_inputs_in_range [hThresholdReferenceIdeal : Cert.ThresholdReferenceIdeal.Facts] [hPre_inputs_in_range : Cert.Pre_inputs_in_range.Facts] : Prop :=
  ∀ (m : (ℓ : Loc Cert.ThresholdReferenceIdeal.nD Cert.ThresholdReferenceIdeal.τ Cert.ThresholdReferenceIdeal.sig) → Buf (Elt Ideal) ℓ) (g : Dev Cert.ThresholdReferenceIdeal.nD → PrngReg), Pre_ThresholdReferenceIdeal_inputs_in_range m →
    θ_run (Cert.ThresholdReferenceIdeal.defs (F := Ideal)) (onTc (τ := Cert.ThresholdReferenceIdeal.τ) (Cert.ThresholdReferenceIdeal.main (F := Ideal))) ⟨m, fun _ => 0, g⟩ (fun r => (∀ c : Dev Cert.ThresholdReferenceIdeal.nD,
      r.2.mem ((c.tc : Thread Cert.ThresholdReferenceIdeal.nD Cert.ThresholdReferenceIdeal.τ).loc Cert.ThresholdReferenceIdeal.main_arg0) = m ((c.tc : Thread Cert.ThresholdReferenceIdeal.nD Cert.ThresholdReferenceIdeal.τ).loc Cert.ThresholdReferenceIdeal.main_arg0)
      ∧ r.2.mem ((c.tc : Thread Cert.ThresholdReferenceIdeal.nD Cert.ThresholdReferenceIdeal.τ).loc Cert.ThresholdReferenceIdeal.main_arg1) = m ((c.tc : Thread Cert.ThresholdReferenceIdeal.nD Cert.ThresholdReferenceIdeal.τ).loc Cert.ThresholdReferenceIdeal.main_arg1))
      ∧ r.2.sem = fun _ => 0)

def preserves_Kernel_KernelIdeal : Prop :=
  True

def algebraic_KernelIdeal_ReferenceIdeal_on_threshold_exact_pre_inputs_in_range [hKernelIdeal : Cert.KernelIdeal.Facts] [hReferenceIdeal : Cert.ReferenceIdeal.Facts] [hPre_inputs_in_range : Cert.Pre_inputs_in_range.Facts] [hOn_threshold_exact : Cert.On_threshold_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v64) i = v0 c i)
          ∧ (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v44) i = v1 c i)
          ∧ (∀ i : (⟨0, ![]⟩ : Shape).Idx, (Cert.On_threshold_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v61) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ThresholdReferenceIdeal_pre_inputs_in_range [hKernelIdeal : Cert.KernelIdeal.Facts] [hThresholdReferenceIdeal : Cert.ThresholdReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ThresholdReferenceIdeal.nD Cert.ThresholdReferenceIdeal.τ Cert.ThresholdReferenceIdeal.sig) → Buf (Elt Ideal) ℓ) (g' : Dev Cert.ThresholdReferenceIdeal.nD → PrngReg), Pre_KernelIdeal_inputs_in_range m →
    (∀ c : Dev Cert.KernelIdeal.nD,
      m' ((c.tc : Thread Cert.ThresholdReferenceIdeal.nD Cert.ThresholdReferenceIdeal.τ).loc Cert.ThresholdReferenceIdeal.main_arg0) = m ((c.tc : Thread Cert.KernelIdeal.nD Cert.KernelIdeal.τ).loc Cert.KernelIdeal.main_arg0)
      ∧ m' ((c.tc : Thread Cert.ThresholdReferenceIdeal.nD Cert.ThresholdReferenceIdeal.τ).loc Cert.ThresholdReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ThresholdReferenceIdeal.defs (F := Ideal)) (onTc (τ := Cert.ThresholdReferenceIdeal.τ) (Cert.ThresholdReferenceIdeal.main (F := Ideal))) ⟨m', fun _ => 0, g'⟩ (fun r => ∀ c : Dev Cert.ThresholdReferenceIdeal.nD,
          r.2.mem ((c.tc : Thread Cert.ThresholdReferenceIdeal.nD Cert.ThresholdReferenceIdeal.τ).loc Cert.ThresholdReferenceIdeal.main_v94) = v0 c
          ∧ r.2.mem ((c.tc : Thread Cert.ThresholdReferenceIdeal.nD Cert.ThresholdReferenceIdeal.τ).loc Cert.ThresholdReferenceIdeal.main_v74) = v1 c
          ∧ r.2.mem ((c.tc : Thread Cert.ThresholdReferenceIdeal.nD Cert.ThresholdReferenceIdeal.τ).loc Cert.ThresholdReferenceIdeal.main_v91) = v2 c
          ∧ r.2.mem ((c.tc : Thread Cert.ThresholdReferenceIdeal.nD Cert.ThresholdReferenceIdeal.τ).loc Cert.ThresholdReferenceIdeal.main_arg0) = m' ((c.tc : Thread Cert.ThresholdReferenceIdeal.nD Cert.ThresholdReferenceIdeal.τ).loc Cert.ThresholdReferenceIdeal.main_arg0)
          ∧ r.2.mem ((c.tc : Thread Cert.ThresholdReferenceIdeal.nD Cert.ThresholdReferenceIdeal.τ).loc Cert.ThresholdReferenceIdeal.main_arg1) = m' ((c.tc : Thread Cert.ThresholdReferenceIdeal.nD Cert.ThresholdReferenceIdeal.τ).loc Cert.ThresholdReferenceIdeal.main_arg1))

def holds_KernelIdeal_near_reference_pre_inputs_in_range [hKernelIdeal : Cert.KernelIdeal.Facts] [hPre_inputs_in_range : Cert.Pre_inputs_in_range.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2))).1 = (fun _ => 1#1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2))).2 = (fun _ => 1#1))

def Claim : Prop :=
  ∃ (hKernel : Cert.Kernel.Facts) (hKernelIdeal : Cert.KernelIdeal.Facts) (hReferenceIdeal : Cert.ReferenceIdeal.Facts) (hThresholdReferenceIdeal : Cert.ThresholdReferenceIdeal.Facts) (hPre_inputs_in_range : Cert.Pre_inputs_in_range.Facts) (hPost_near_reference : Cert.Post_near_reference.Facts) (hOn_threshold_exact : Cert.On_threshold_exact.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ quiescent_ThresholdReferenceIdeal (hThresholdReferenceIdeal := hThresholdReferenceIdeal)
    ∧ quiescent_ThresholdReferenceIdeal_pre_inputs_in_range (hThresholdReferenceIdeal := hThresholdReferenceIdeal) (hPre_inputs_in_range := hPre_inputs_in_range)
    ∧ preserves_Kernel_KernelIdeal
    ∧ algebraic_KernelIdeal_ReferenceIdeal_on_threshold_exact_pre_inputs_in_range (hKernelIdeal := hKernelIdeal) (hReferenceIdeal := hReferenceIdeal) (hPre_inputs_in_range := hPre_inputs_in_range) (hOn_threshold_exact := hOn_threshold_exact)
    ∧ algebraic_KernelIdeal_ThresholdReferenceIdeal_pre_inputs_in_range (hKernelIdeal := hKernelIdeal) (hThresholdReferenceIdeal := hThresholdReferenceIdeal) (hPre_inputs_in_range := hPre_inputs_in_range)
    ∧ holds_KernelIdeal_near_reference_pre_inputs_in_range (hKernelIdeal := hKernelIdeal) (hPre_inputs_in_range := hPre_inputs_in_range) (hPost_near_reference := hPost_near_reference)
-- ==== On_threshold_exact.lean ====
abbrev S16x8732x85 : Shape := ⟨3, ![16, 8732, 85]⟩
abbrev S16x8732x81 : Shape := ⟨3, ![16, 8732, 81]⟩
abbrev S_ : Shape := ⟨0, ![]⟩
abbrev S16x8732x1 : Shape := ⟨3, ![16, 8732, 1]⟩
abbrev S16x8732 : Shape := ⟨2, ![16, 8732]⟩
abbrev S16 : Shape := ⟨1, ![16]⟩
abbrev S8732 : Shape := ⟨1, ![8732]⟩
abbrev S1x8732 : Shape := ⟨2, ![1, 8732]⟩
abbrev S16x1 : Shape := ⟨2, ![16, 1]⟩

class Facts : Prop where
  slices_S16x8732x85_S16x8732x81_0_0_0 : S16x8732x85.Slices ![0, 0, 0] S16x8732x81
  bcast_S_S16x8732x81 : S_.BroadcastsInDim S16x8732x81 (![] : Fin 0 → Fin S16x8732x81.rank)
  slices_S16x8732x81_S16x8732x1_0_0_0 : S16x8732x81.Slices ![0, 0, 0] S16x8732x1
  shapeCasts_S16x8732x1_S16x8732 : S16x8732x1.ShapeCasts S16x8732
  bcast_S_S16x8732 : S_.BroadcastsInDim S16x8732 (![] : Fin 0 → Fin S16x8732.rank)
  natLt_1_32 : 1 < 32
  reducesTo_S16x8732_S16_d1 : S16x8732.ReducesTo [1] S16
  h_S_ : 0 < S_.numel
  bcast_S_S16 : S_.BroadcastsInDim S16 (![] : Fin 0 → Fin S16.rank)
  reducesTo_S16x8732x81_S16x8732_d2 : S16x8732x81.ReducesTo [2] S16x8732
  bcast_S8732_S1x8732_1 : S8732.BroadcastsInDim S1x8732 (![1] : Fin 1 → Fin S1x8732.rank)
  bcast_S16_S16x1_0 : S16.BroadcastsInDim S16x1 (![0] : Fin 1 → Fin S16x1.rank)
  bcast_S1x8732_S16x8732_0_1 : S1x8732.BroadcastsInDim S16x8732 (![0, 1] : Fin 2 → Fin S16x8732.rank)
  bcast_S16x1_S16x8732_0_1 : S16x1.BroadcastsInDim S16x8732 (![0, 1] : Fin 2 → Fin S16x8732.rank)
  reducesTo_S16x8732x81_S_d0_1_2 : S16x8732x81.ReducesTo [0, 1, 2] S_
  reducesTo_S16_S_d0 : S16.ReducesTo [0] S_

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_where {F : FTy → Type} [FloatOps F] (arg0 : IVec S16x8732x81 1) (arg1 : FVec F S16x8732x81 .f32) (arg2 : FVec F S16x8732x81 .f32) : FVec F S16x8732x81 .f32 :=
  let v0 : FVec F S16x8732x81 .f32 := select arg0 arg1 arg2
  v0

def fn_clip {F : FTy → Type} [FloatOps F] (arg0 : FVec F S16x8732x81 .f32) (arg1 : FVec F S_ .f32) (arg2 : FVec F S_ .f32) : FVec F S16x8732x81 .f32 :=
  let v0 : FVec F S_ .f32 := id arg1
  let v1 : FVec F S16x8732x81 .f32 := broadcastInDim S16x8732x81 ![] bcast_S_S16x8732x81 v0
  let v2 : FVec F S16x8732x81 .f32 := maximumf v1 arg0
  let v3 : FVec F S_ .f32 := id arg2
  let v4 : FVec F S16x8732x81 .f32 := broadcastInDim S16x8732x81 ![] bcast_S_S16x8732x81 v3
  let v5 : FVec F S16x8732x81 .f32 := minimumf v4 v2
  v5

def fn_where_0 {F : FTy → Type} [FloatOps F] (arg0 : IVec S16x8732 1) (arg1 : FVec F S_ .f32) (arg2 : FVec F S16x8732 .f32) : FVec F S16x8732 .f32 :=
  let v0 : FVec F S_ .f32 := id arg1
  let v1 : FVec F S16x8732 .f32 := broadcastInDim S16x8732 ![] bcast_S_S16x8732 v0
  let v2 : FVec F S16x8732 .f32 := select arg0 v1 arg2
  v2

def fn_sort {F : FTy → Type} [FloatOps F] (arg0 : FVec F S16x8732 .f32) : FVec F S16x8732 .f32 :=
  let v0 : FVec F S16x8732 .f32 := (fun x => Host.sort S16x8732 1 comparator_f32_d1 x) arg0
  v0

def fn_where_1 {F : FTy → Type} [FloatOps F] (arg0 : IVec S16x8732 1) (arg1 : FVec F S16x8732 .f32) (arg2 : FVec F S16x1 .f32) : FVec F S16x8732 .f32 :=
  let v0 : FVec F S16x8732 .f32 := broadcastInDim S16x8732 ![0, 1] bcast_S16x1_S16x8732_0_1 arg2
  let v1 : FVec F S16x8732 .f32 := select arg0 arg1 v0
  v1

def fn_part4 {F : FTy → Type} [FloatOps F] (main_v8 : IVec S16x8732x81 1) (main_v36 : FVec F S16 .f32) (main_v69 : IVec S16 1) : IVec S_ 1 × IVec S_ 1 × IVec S_ 1 :=
  let main_c_24 : IVec S_ 1 := constantI S_ 1 1#1
  let main_v70 : IVec S_ 1 := (fun x v => Host.reduce IntOp.andi x v reducesTo_S16x8732x81_S_d0_1_2 h_S_) main_v8 main_c_24
  let main_cst_25 : FVec F S_ .f32 := constant S_ .f32 0x00000000#32
  let main_v71 : FVec F S16 .f32 := broadcastInDim S16 ![] bcast_S_S16 main_cst_25
  let main_v72 : IVec S16 1 := cmpf .oeq main_v36 main_v71
  let main_v73 : IVec S16 1 := ori main_v69 main_v72
  let main_c_26 : IVec S_ 1 := constantI S_ 1 1#1
  let main_v74 : IVec S_ 1 := (fun x v => Host.reduce IntOp.andi x v reducesTo_S16_S_d0 h_S_) main_v73 main_c_26
  let main_v75 : IVec S_ 1 := andi main_v70 main_v74
  let main_c_27 : IVec S_ 1 := constantI S_ 1 1#1
  let main_v76 : IVec S_ 1 := ori main_v75 main_c_27
  (main_v75, main_v75, main_v76)

def fn_part3 {F : FTy → Type} [FloatOps F] (main_v8 : IVec S16x8732x81 1) (main_v16 : IVec S16 32) (main_v36 : FVec F S16 .f32) (main_v45 : FVec F S16 .f32) (main_v47 : FVec F S16 .f32) (main_v51 : FVec F S16 .f32) : IVec S_ 1 × IVec S_ 1 × IVec S_ 1 :=
  let main_cst_18 : FVec F S_ .f32 := constant S_ .f32 0x3F800000#32
  let main_v52 : FVec F S16 .f32 := broadcastInDim S16 ![] bcast_S_S16 main_cst_18
  let main_v53 : FVec F S16 .f32 := subf main_v51 main_v52
  let main_cst_19 : FVec F S_ .f32 := constant S_ .f32 0x00000000#32
  let main_v54 : FVec F S16 .f32 := broadcastInDim S16 ![] bcast_S_S16 main_cst_19
  let main_v55 : FVec F S16 .f32 := maximumf main_v53 main_v54
  let main_cst_20 : FVec F S_ .f32 := constant S_ .f32 0x3F000000#32
  let main_v56 : FVec F S16 .f32 := broadcastInDim S16 ![] bcast_S_S16 main_cst_20
  let main_v57 : FVec F S16 .f32 := addf main_v55 main_v56
  let main_v58 : FVec F S16 .f32 := mulf main_v57 main_v36
  let main_cst_21 : FVec F S_ .f32 := constant S_ .f32 0x33800000#32
  let main_v59 : FVec F S16 .f32 := broadcastInDim S16 ![] bcast_S_S16 main_cst_21
  let main_v60 : FVec F S16 .f32 := mulf main_v58 main_v59
  let main_c_22 : IVec S_ 32 := constantI S_ 32 1#32
  let main_v61 : IVec S16 32 := broadcastInDim S16 ![] bcast_S_S16 main_c_22
  let main_v62 : IVec S16 1 := cmpi .sge main_v16 main_v61
  let main_c_23 : IVec S_ 32 := constantI S_ 32 8732#32
  let main_v63 : IVec S16 32 := broadcastInDim S16 ![] bcast_S_S16 main_c_23
  let main_v64 : IVec S16 1 := cmpi .sle main_v16 main_v63
  let main_v65 : IVec S16 1 := andi main_v62 main_v64
  let main_v66 : IVec S16 1 := cmpf .ole main_v47 main_v60
  let main_v67 : IVec S16 1 := andi main_v65 main_v66
  let main_v68 : IVec S16 1 := cmpf .ole main_v60 main_v45
  let main_v69 : IVec S16 1 := andi main_v67 main_v68
  fn_part4 (F := F) main_v8 main_v36 main_v69

def fn_part2 {F : FTy → Type} [FloatOps F] (main_v8 : IVec S16x8732x81 1) (main_v16 : IVec S16 32) (main_v32 : FVec F S16x8732 .f32) : IVec S_ 1 × IVec S_ 1 × IVec S_ 1 :=
  let main_v33 : FVec F S16x8732 .f32 := Host.negf main_v32
  let main_v34 : FVec F S16x8732 .f32 := fn_sort (F := F) main_v33
  let main_v35 : FVec F S16x8732 .f32 := Host.negf main_v34
  let main_cst_13 : FVec F S_ .f32 := constant S_ .f32 0xFF800000#32
  let main_v36 : FVec F S16 .f32 := (fun x v => Host.reduce FloatOps.maximumf x v reducesTo_S16x8732_S16_d1 h_S_) main_v32 main_cst_13
  let main_v37 : IVec S8732 32 := iotaInDim S8732 32 0
  let main_v38 : IVec S1x8732 32 := broadcastInDim S1x8732 ![1] bcast_S8732_S1x8732_1 main_v37
  let main_v39 : IVec S16x1 32 := broadcastInDim S16x1 ![0] bcast_S16_S16x1_0 main_v16
  let main_v40 : IVec S16x8732 32 := broadcastInDim S16x8732 ![0, 1] bcast_S1x8732_S16x8732_0_1 main_v38
  let main_v41 : IVec S16x8732 32 := broadcastInDim S16x8732 ![0, 1] bcast_S16x1_S16x8732_0_1 main_v39
  let main_v42 : IVec S16x8732 1 := cmpi .slt main_v40 main_v41
  let main_v43 : FVec F S16x1 .f32 := broadcastInDim S16x1 ![0] bcast_S16_S16x1_0 main_v36
  let main_v44 : FVec F S16x8732 .f32 := fn_where_1 (F := F) main_v42 main_v35 main_v43
  let main_cst_14 : FVec F S_ .f32 := constant S_ .f32 0x7F800000#32
  let main_v45 : FVec F S16 .f32 := (fun x v => Host.reduce FloatOps.minimumf x v reducesTo_S16x8732_S16_d1 h_S_) main_v44 main_cst_14
  let main_cst_15 : FVec F S_ .f32 := constant S_ .f32 0x00000000#32
  let main_v46 : FVec F S16x8732 .f32 := fn_where_0 (F := F) main_v42 main_cst_15 main_v35
  let main_cst_16 : FVec F S_ .f32 := constant S_ .f32 0xFF800000#32
  let main_v47 : FVec F S16 .f32 := (fun x v => Host.reduce FloatOps.maximumf x v reducesTo_S16x8732_S16_d1 h_S_) main_v46 main_cst_16
  let main_cst_17 : FVec F S_ .f32 := constant S_ .f32 0x4B800000#32
  let main_v48 : FVec F S16 .f32 := broadcastInDim S16 ![] bcast_S_S16 main_cst_17
  let main_v49 : FVec F S16 .f32 := mulf main_v45 main_v48
  let main_v50 : FVec F S16 .f32 := Host.divf main_v49 main_v36
  let main_v51 : FVec F S16 .f32 := Host.ceil main_v50
  fn_part3 (F := F) main_v8 main_v16 main_v36 main_v45 main_v47 main_v51

def fn_part1 {F : FTy → Type} [FloatOps F] (main_v0 : FVec F S16x8732x81 .f32) (main_v1 : FVec F S16x8732x81 .f32) (main_v8 : IVec S16x8732x81 1) (main_v12 : IVec S16x8732 1) (main_v16 : IVec S16 32) (main_cst_4 : FVec F S_ .f32) : IVec S_ 1 × IVec S_ 1 × IVec S_ 1 :=
  let main_cst_5 : FVec F S_ .f32 := constant S_ .f32 0x3F7FFFFE#32
  let main_v17 : FVec F S16x8732x81 .f32 := fn_clip (F := F) main_v0 main_cst_4 main_cst_5
  let main_v18 : FVec F S16x8732x81 .f32 := Host.log main_v17
  let main_v19 : FVec F S16x8732x81 .f32 := Host.negf main_v18
  let main_v20 : FVec F S16x8732x81 .f32 := mulf main_v1 main_v19
  let main_cst_6 : FVec F S_ .f32 := constant S_ .f32 0x00000000#32
  let main_v21 : FVec F S16x8732 .f32 := (fun x v => Host.reduceAdd x v reducesTo_S16x8732x81_S16x8732_d2 h_S_) main_v20 main_cst_6
  let main_cst_7 : FVec F S_ .f32 := constant S_ .f32 0x3F800000#32
  let main_v22 : FVec F S16x8732x81 .f32 := broadcastInDim S16x8732x81 ![] bcast_S_S16x8732x81 main_cst_7
  let main_v23 : FVec F S16x8732x81 .f32 := subf main_v22 main_v1
  let main_cst_8 : FVec F S_ .f32 := constant S_ .f32 0x3F800000#32
  let main_v24 : FVec F S16x8732x81 .f32 := broadcastInDim S16x8732x81 ![] bcast_S_S16x8732x81 main_cst_8
  let main_v25 : FVec F S16x8732x81 .f32 := subf main_v24 main_v0
  let main_cst_9 : FVec F S_ .f32 := constant S_ .f32 0x33D6BF95#32
  let main_cst_10 : FVec F S_ .f32 := constant S_ .f32 0x3F7FFFFE#32
  let main_v26 : FVec F S16x8732x81 .f32 := fn_clip (F := F) main_v25 main_cst_9 main_cst_10
  let main_v27 : FVec F S16x8732x81 .f32 := Host.log main_v26
  let main_v28 : FVec F S16x8732x81 .f32 := Host.negf main_v27
  let main_v29 : FVec F S16x8732x81 .f32 := mulf main_v23 main_v28
  let main_cst_11 : FVec F S_ .f32 := constant S_ .f32 0x00000000#32
  let main_v30 : FVec F S16x8732 .f32 := (fun x v => Host.reduceAdd x v reducesTo_S16x8732x81_S16x8732_d2 h_S_) main_v29 main_cst_11
  let main_v31 : FVec F S16x8732 .f32 := addf main_v21 main_v30
  let main_cst_12 : FVec F S_ .f32 := constant S_ .f32 0x00000000#32
  let main_v32 : FVec F S16x8732 .f32 := fn_where_0 (F := F) main_v12 main_cst_12 main_v31
  fn_part2 (F := F) main_v8 main_v16 main_v32

def fn {F : FTy → Type} [FloatOps F] (main_arg0 : FVec F S16x8732x85 .f32) (main_arg1 : FVec F S16x8732x85 .f32) : IVec S_ 1 × IVec S_ 1 × IVec S_ 1 :=
  let main_v0 : FVec F S16x8732x81 .f32 := (extractStridedSlice S16x8732x81 ![0, 0, 0] · slices_S16x8732x85_S16x8732x81_0_0_0) main_arg0
  let main_v1 : FVec F S16x8732x81 .f32 := (extractStridedSlice S16x8732x81 ![0, 0, 0] · slices_S16x8732x85_S16x8732x81_0_0_0) main_arg1
  let main_cst : FVec F S_ .f32 := constant S_ .f32 0x3F000000#32
  let main_v2 : FVec F S16x8732x81 .f32 := broadcastInDim S16x8732x81 ![] bcast_S_S16x8732x81 main_cst
  let main_v3 : IVec S16x8732x81 1 := cmpf .ogt main_v1 main_v2
  let main_cst_0 : FVec F S_ .f32 := constant S_ .f32 0x3F800000#32
  let main_v4 : FVec F S16x8732x81 .f32 := broadcastInDim S16x8732x81 ![] bcast_S_S16x8732x81 main_cst_0
  let main_v5 : FVec F S16x8732x81 .f32 := subf main_v4 main_v0
  let main_v6 : FVec F S16x8732x81 .f32 := fn_where (F := F) main_v3 main_v0 main_v5
  let main_cst_1 : FVec F S_ .f32 := constant S_ .f32 0x3F7FFFFE#32
  let main_v7 : FVec F S16x8732x81 .f32 := broadcastInDim S16x8732x81 ![] bcast_S_S16x8732x81 main_cst_1
  let main_v8 : IVec S16x8732x81 1 := cmpf .ole main_v6 main_v7
  let main_v9 : FVec F S16x8732x1 .f32 := (extractStridedSlice S16x8732x1 ![0, 0, 0] · slices_S16x8732x81_S16x8732x1_0_0_0) main_v1
  let main_v10 : FVec F S16x8732 .f32 := shapeCast S16x8732 main_v9 shapeCasts_S16x8732x1_S16x8732
  let main_cst_2 : FVec F S_ .f32 := constant S_ .f32 0x00000000#32
  let main_v11 : FVec F S16x8732 .f32 := broadcastInDim S16x8732 ![] bcast_S_S16x8732 main_cst_2
  let main_v12 : IVec S16x8732 1 := cmpf .oeq main_v10 main_v11
  let main_v13 : IVec S16x8732 32 := (extui 32 · natLt_1_32) main_v12
  let main_c : IVec S_ 32 := constantI S_ 32 0#32
  let main_v14 : IVec S16 32 := (fun x v => Host.reduce IntOp.addi x v reducesTo_S16x8732_S16_d1 h_S_) main_v13 main_c
  let main_c_3 : IVec S_ 32 := constantI S_ 32 3#32
  let main_v15 : IVec S16 32 := broadcastInDim S16 ![] bcast_S_S16 main_c_3
  let main_v16 : IVec S16 32 := muli main_v14 main_v15
  let main_cst_4 : FVec F S_ .f32 := constant S_ .f32 0x33D6BF95#32
  fn_part1 (F := F) main_v0 main_v1 main_v8 main_v12 main_v16 main_cst_4
-- ==== Post_near_reference.lean ====
abbrev S16x8732x85 : Shape := ⟨3, ![16, 8732, 85]⟩
abbrev S_ : Shape := ⟨0, ![]⟩
abbrev S16x8732x81 : Shape := ⟨3, ![16, 8732, 81]⟩
abbrev S16x8732x4 : Shape := ⟨3, ![16, 8732, 4]⟩
abbrev S16x8732x1 : Shape := ⟨3, ![16, 8732, 1]⟩
abbrev S16x8732 : Shape := ⟨2, ![16, 8732]⟩
abbrev S16 : Shape := ⟨1, ![16]⟩
abbrev S8732 : Shape := ⟨1, ![8732]⟩
abbrev S1x8732 : Shape := ⟨2, ![1, 8732]⟩
abbrev S16x1 : Shape := ⟨2, ![16, 1]⟩

class Facts : Prop where
  slices_S16x8732x85_S16x8732x81_0_0_0 : S16x8732x85.Slices ![0, 0, 0] S16x8732x81
  slices_S16x8732x85_S16x8732x4_0_0_81 : S16x8732x85.Slices ![0, 0, 81] S16x8732x4
  slices_S16x8732x81_S16x8732x1_0_0_0 : S16x8732x81.Slices ![0, 0, 0] S16x8732x1
  shapeCasts_S16x8732x1_S16x8732 : S16x8732x1.ShapeCasts S16x8732
  bcast_S_S16x8732 : S_.BroadcastsInDim S16x8732 (![] : Fin 0 → Fin S16x8732.rank)
  natLt_1_32 : 1 < 32
  reducesTo_S16x8732_S16_d1 : S16x8732.ReducesTo [1] S16
  h_S_ : 0 < S_.numel
  bcast_S_S16 : S_.BroadcastsInDim S16 (![] : Fin 0 → Fin S16.rank)
  bcast_S_S16x8732x81 : S_.BroadcastsInDim S16x8732x81 (![] : Fin 0 → Fin S16x8732x81.rank)
  reducesTo_S16x8732x81_S16x8732_d2 : S16x8732x81.ReducesTo [2] S16x8732
  reducesTo_S16x8732_S_d0_1 : S16x8732.ReducesTo [0, 1] S_
  bcast_S8732_S1x8732_1 : S8732.BroadcastsInDim S1x8732 (![1] : Fin 1 → Fin S1x8732.rank)
  bcast_S16_S16x1_0 : S16.BroadcastsInDim S16x1 (![0] : Fin 1 → Fin S16x1.rank)
  bcast_S1x8732_S16x8732_0_1 : S1x8732.BroadcastsInDim S16x8732 (![0, 1] : Fin 2 → Fin S16x8732.rank)
  bcast_S16x1_S16x8732_0_1 : S16x1.BroadcastsInDim S16x8732 (![0, 1] : Fin 2 → Fin S16x8732.rank)
  reducesTo_S16_S_d0 : S16.ReducesTo [0] S_
  bcast_S_S16x8732x4 : S_.BroadcastsInDim S16x8732x4 (![] : Fin 0 → Fin S16x8732x4.rank)
  bcast_S16x8732_S16x8732x1_0_1 : S16x8732.BroadcastsInDim S16x8732x1 (![0, 1] : Fin 2 → Fin S16x8732x1.rank)
  bcast_S16x8732x1_S16x8732x4_0_1_2 : S16x8732x1.BroadcastsInDim S16x8732x4 (![0, 1, 2] : Fin 3 → Fin S16x8732x4.rank)
  reducesTo_S16x8732x4_S_d0_1_2 : S16x8732x4.ReducesTo [0, 1, 2] S_

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_clip {F : FTy → Type} [FloatOps F] (arg0 : FVec F S16x8732x81 .f32) (arg1 : FVec F S_ .f32) (arg2 : FVec F S_ .f32) : FVec F S16x8732x81 .f32 :=
  let v0 : FVec F S_ .f32 := id arg1
  let v1 : FVec F S16x8732x81 .f32 := broadcastInDim S16x8732x81 ![] bcast_S_S16x8732x81 v0
  let v2 : FVec F S16x8732x81 .f32 := maximumf v1 arg0
  let v3 : FVec F S_ .f32 := id arg2
  let v4 : FVec F S16x8732x81 .f32 := broadcastInDim S16x8732x81 ![] bcast_S_S16x8732x81 v3
  let v5 : FVec F S16x8732x81 .f32 := minimumf v4 v2
  v5

def fn_where {F : FTy → Type} [FloatOps F] (arg0 : IVec S16x8732 1) (arg1 : FVec F S16x8732 .f32) (arg2 : FVec F S_ .f32) : FVec F S16x8732 .f32 :=
  let v0 : FVec F S_ .f32 := id arg2
  let v1 : FVec F S16x8732 .f32 := broadcastInDim S16x8732 ![] bcast_S_S16x8732 v0
  let v2 : FVec F S16x8732 .f32 := select arg0 arg1 v1
  v2

def fn_where_0 {F : FTy → Type} [FloatOps F] (arg0 : IVec S16x8732 1) (arg1 : FVec F S_ .f32) (arg2 : FVec F S16x8732 .f32) : FVec F S16x8732 .f32 :=
  let v0 : FVec F S_ .f32 := id arg1
  let v1 : FVec F S16x8732 .f32 := broadcastInDim S16x8732 ![] bcast_S_S16x8732 v0
  let v2 : FVec F S16x8732 .f32 := select arg0 v1 arg2
  v2

def fn_sort {F : FTy → Type} [FloatOps F] (arg0 : FVec F S16x8732 .f32) : FVec F S16x8732 .f32 :=
  let v0 : FVec F S16x8732 .f32 := (fun x => Host.sort S16x8732 1 comparator_f32_d1 x) arg0
  v0

def fn_where_1 {F : FTy → Type} [FloatOps F] (arg0 : IVec S16x8732x4 1) (arg1 : FVec F S16x8732x4 .f32) (arg2 : FVec F S16x8732x4 .f32) : FVec F S16x8732x4 .f32 :=
  let v0 : FVec F S16x8732x4 .f32 := select arg0 arg1 arg2
  v0

def fn_where_2 {F : FTy → Type} [FloatOps F] (arg0 : IVec S16x8732x1 1) (arg1 : FVec F S16x8732x4 .f32) (arg2 : FVec F S_ .f32) : FVec F S16x8732x4 .f32 :=
  let v0 : FVec F S_ .f32 := id arg2
  let v1 : IVec S16x8732x4 1 := broadcastInDim S16x8732x4 ![0, 1, 2] bcast_S16x8732x1_S16x8732x4_0_1_2 arg0
  let v2 : FVec F S16x8732x4 .f32 := broadcastInDim S16x8732x4 ![] bcast_S_S16x8732x4 v0
  let v3 : FVec F S16x8732x4 .f32 := select v1 arg1 v2
  v3

def fn_part6 {F : FTy → Type} [FloatOps F] (main_arg2 : FVec F S_ .f32) (main_arg3 : FVec F S_ .f32) (main_v44 : FVec F S_ .f32) (main_v64 : FVec F S_ .f32) (main_v74 : FVec F S_ .f32) (main_v100 : FVec F S_ .f32) : IVec S_ 1 × IVec S_ 1 :=
  let main_v101 : FVec F S_ .f32 := Host.divf main_v100 main_v74
  let main_cst_41 : FVec F S_ .f32 := constant S_ .f32 0x00000000#32
  let main_v102 : IVec S_ 1 := cmpf .oeq main_v74 main_cst_41
  let main_v103 : FVec F S_ .f32 := addf main_v44 main_v101
  let main_v104 : IVec S_ 1 := cmpf .ole main_arg3 main_v103
  let main_cst_42 : FVec F S_ .f32 := constant S_ .f32 0x3827C5AC#32
  let main_v105 : FVec F S_ .f32 := addf main_arg3 main_cst_42
  let main_v106 : IVec S_ 1 := cmpf .ole main_v44 main_v105
  let main_v107 : IVec S_ 1 := andi main_v104 main_v106
  let main_v108 : FVec F S_ .f32 := addf main_v64 main_v101
  let main_v109 : IVec S_ 1 := cmpf .ole main_arg2 main_v108
  let main_cst_43 : FVec F S_ .f32 := constant S_ .f32 0x3827C5AC#32
  let main_v110 : FVec F S_ .f32 := addf main_arg2 main_cst_43
  let main_v111 : IVec S_ 1 := cmpf .ole main_v64 main_v110
  let main_v112 : IVec S_ 1 := andi main_v109 main_v111
  let main_v113 : IVec S_ 1 := ori main_v102 main_v107
  let main_v114 : IVec S_ 1 := ori main_v102 main_v112
  (main_v113, main_v114)

def fn_part5 {F : FTy → Type} [FloatOps F] (main_arg2 : FVec F S_ .f32) (main_arg3 : FVec F S_ .f32) (main_v44 : FVec F S_ .f32) (main_v64 : FVec F S_ .f32) (main_v70 : IVec S16x8732 1) (main_v72 : IVec S16 32) (main_v74 : FVec F S_ .f32) (main_v79 : FVec F S16x8732 .f32) (main_v81 : FVec F S16x8732x81 .f32) (main_v83 : FVec F S16x8732x81 .f32) (main_cst_32 : FVec F S_ .f32) (main_cst_33 : FVec F S_ .f32) : IVec S_ 1 × IVec S_ 1 :=
  let main_v84 : FVec F S16x8732x81 .f32 := fn_clip (F := F) main_v83 main_cst_32 main_cst_33
  let main_v85 : FVec F S16x8732x81 .f32 := Host.log main_v84
  let main_v86 : FVec F S16x8732x81 .f32 := Host.negf main_v85
  let main_v87 : FVec F S16x8732x81 .f32 := mulf main_v81 main_v86
  let main_cst_34 : FVec F S_ .f32 := constant S_ .f32 0x00000000#32
  let main_v88 : FVec F S16x8732 .f32 := (fun x v => Host.reduceAdd x v reducesTo_S16x8732x81_S16x8732_d2 h_S_) main_v87 main_cst_34
  let main_v89 : FVec F S16x8732 .f32 := addf main_v79 main_v88
  let main_cst_35 : FVec F S_ .f32 := constant S_ .f32 0x00000000#32
  let main_v90 : FVec F S16x8732 .f32 := fn_where_0 (F := F) main_v70 main_cst_35 main_v89
  let main_cst_36 : FVec F S_ .f32 := constant S_ .f32 0xFF800000#32
  let main_v91 : FVec F S16 .f32 := (fun x v => Host.reduce FloatOps.maximumf x v reducesTo_S16x8732_S16_d1 h_S_) main_v90 main_cst_36
  let main_c_37 : IVec S_ 32 := constantI S_ 32 3#32
  let main_v92 : IVec S16 32 := broadcastInDim S16 ![] bcast_S_S16 main_c_37
  let main_v93 : IVec S16 32 := muli main_v72 main_v92
  let main_c_38 : IVec S_ 32 := constantI S_ 32 8732#32
  let main_v94 : IVec S16 32 := broadcastInDim S16 ![] bcast_S_S16 main_c_38
  let main_v95 : IVec S16 32 := maxsi main_v93 main_v94
  let main_v96 : FVec F S16 .f32 := sitofp .f32 main_v95
  let main_cst_39 : FVec F S_ .f32 := constant S_ .f32 0x33000000#32
  let main_v97 : FVec F S16 .f32 := broadcastInDim S16 ![] bcast_S_S16 main_cst_39
  let main_v98 : FVec F S16 .f32 := mulf main_v91 main_v97
  let main_v99 : FVec F S16 .f32 := mulf main_v96 main_v98
  let main_cst_40 : FVec F S_ .f32 := constant S_ .f32 0x00000000#32
  let main_v100 : FVec F S_ .f32 := (fun x v => Host.reduceAdd x v reducesTo_S16_S_d0 h_S_) main_v99 main_cst_40
  fn_part6 (F := F) main_arg2 main_arg3 main_v44 main_v64 main_v74 main_v100

def fn_part4 {F : FTy → Type} [FloatOps F] (main_arg2 : FVec F S_ .f32) (main_arg3 : FVec F S_ .f32) (main_v44 : FVec F S_ .f32) (main_v64 : FVec F S_ .f32) (main_v65 : FVec F S16x8732x81 .f32) (main_v66 : FVec F S16x8732x81 .f32) (main_v68 : FVec F S16x8732 .f32) (main_cst_24 : FVec F S_ .f32) : IVec S_ 1 × IVec S_ 1 :=
  let main_v69 : FVec F S16x8732 .f32 := broadcastInDim S16x8732 ![] bcast_S_S16x8732 main_cst_24
  let main_v70 : IVec S16x8732 1 := cmpf .oeq main_v68 main_v69
  let main_v71 : IVec S16x8732 32 := (extui 32 · natLt_1_32) main_v70
  let main_c_25 : IVec S_ 32 := constantI S_ 32 0#32
  let main_v72 : IVec S16 32 := (fun x v => Host.reduce IntOp.addi x v reducesTo_S16x8732_S16_d1 h_S_) main_v71 main_c_25
  let main_c_26 : IVec S_ 32 := constantI S_ 32 0#32
  let main_v73 : IVec S_ 32 := (fun x v => Host.reduce IntOp.addi x v reducesTo_S16_S_d0 h_S_) main_v72 main_c_26
  let main_v74 : FVec F S_ .f32 := sitofp .f32 main_v73
  let main_cst_27 : FVec F S_ .f32 := constant S_ .f32 0x33D6BF95#32
  let main_cst_28 : FVec F S_ .f32 := constant S_ .f32 0x3F7FFFFE#32
  let main_v75 : FVec F S16x8732x81 .f32 := fn_clip (F := F) main_v65 main_cst_27 main_cst_28
  let main_v76 : FVec F S16x8732x81 .f32 := Host.log main_v75
  let main_v77 : FVec F S16x8732x81 .f32 := Host.negf main_v76
  let main_v78 : FVec F S16x8732x81 .f32 := mulf main_v66 main_v77
  let main_cst_29 : FVec F S_ .f32 := constant S_ .f32 0x00000000#32
  let main_v79 : FVec F S16x8732 .f32 := (fun x v => Host.reduceAdd x v reducesTo_S16x8732x81_S16x8732_d2 h_S_) main_v78 main_cst_29
  let main_cst_30 : FVec F S_ .f32 := constant S_ .f32 0x3F800000#32
  let main_v80 : FVec F S16x8732x81 .f32 := broadcastInDim S16x8732x81 ![] bcast_S_S16x8732x81 main_cst_30
  let main_v81 : FVec F S16x8732x81 .f32 := subf main_v80 main_v66
  let main_cst_31 : FVec F S_ .f32 := constant S_ .f32 0x3F800000#32
  let main_v82 : FVec F S16x8732x81 .f32 := broadcastInDim S16x8732x81 ![] bcast_S_S16x8732x81 main_cst_31
  let main_v83 : FVec F S16x8732x81 .f32 := subf main_v82 main_v65
  let main_cst_32 : FVec F S_ .f32 := constant S_ .f32 0x33D6BF95#32
  let main_cst_33 : FVec F S_ .f32 := constant S_ .f32 0x3F7FFFFE#32
  fn_part5 (F := F) main_arg2 main_arg3 main_v44 main_v64 main_v70 main_v72 main_v74 main_v79 main_v81 main_v83 main_cst_32 main_cst_33

def fn_part3 {F : FTy → Type} [FloatOps F] (main_arg0 : FVec F S16x8732x85 .f32) (main_arg1 : FVec F S16x8732x85 .f32) (main_arg2 : FVec F S_ .f32) (main_arg3 : FVec F S_ .f32) (main_v7 : IVec S16x8732 1) (main_v42 : FVec F S_ .f32) (main_v44 : FVec F S_ .f32) (main_v46 : FVec F S16x8732x4 .f32) (main_v48 : IVec S16x8732x4 1) (main_v51 : FVec F S16x8732x4 .f32) (main_cst_17 : FVec F S_ .f32) : IVec S_ 1 × IVec S_ 1 :=
  let main_v52 : FVec F S16x8732x4 .f32 := broadcastInDim S16x8732x4 ![] bcast_S_S16x8732x4 main_cst_17
  let main_v53 : FVec F S16x8732x4 .f32 := subf main_v46 main_v52
  let main_cst_18 : FVec F S_ .f32 := constant S_ .f32 0x3F800000#32
  let main_v54 : FVec F S16x8732x4 .f32 := broadcastInDim S16x8732x4 ![] bcast_S_S16x8732x4 main_cst_18
  let main_v55 : FVec F S16x8732x4 .f32 := mulf main_v54 main_v53
  let main_v56 : FVec F S16x8732x4 .f32 := fn_where_1 (F := F) main_v48 main_v51 main_v55
  let main_v57 : IVec S16x8732x1 1 := broadcastInDim S16x8732x1 ![0, 1] bcast_S16x8732_S16x8732x1_0_1 main_v7
  let main_cst_19 : FVec F S_ .f32 := constant S_ .f32 0x00000000#32
  let main_v58 : FVec F S16x8732x4 .f32 := fn_where_2 (F := F) main_v57 main_v56 main_cst_19
  let main_cst_20 : FVec F S_ .f32 := constant S_ .f32 0x00000000#32
  let main_v59 : FVec F S_ .f32 := (fun x v => Host.reduceAdd x v reducesTo_S16x8732x4_S_d0_1_2 h_S_) main_v58 main_cst_20
  let main_cst_21 : FVec F S_ .f32 := constant S_ .f32 0x40800000#32
  let main_v60 : FVec F S_ .f32 := mulf main_v42 main_cst_21
  let main_v61 : FVec F S_ .f32 := Host.divf main_v59 main_v60
  let main_cst_22 : FVec F S_ .f32 := constant S_ .f32 0x3F800000#32
  let main_v62 : FVec F S_ .f32 := mulf main_cst_22 main_v44
  let main_cst_23 : FVec F S_ .f32 := constant S_ .f32 0x3F800000#32
  let main_v63 : FVec F S_ .f32 := mulf main_cst_23 main_v61
  let main_v64 : FVec F S_ .f32 := addf main_v62 main_v63
  let main_v65 : FVec F S16x8732x81 .f32 := (extractStridedSlice S16x8732x81 ![0, 0, 0] · slices_S16x8732x85_S16x8732x81_0_0_0) main_arg0
  let main_v66 : FVec F S16x8732x81 .f32 := (extractStridedSlice S16x8732x81 ![0, 0, 0] · slices_S16x8732x85_S16x8732x81_0_0_0) main_arg1
  let main_v67 : FVec F S16x8732x1 .f32 := (extractStridedSlice S16x8732x1 ![0, 0, 0] · slices_S16x8732x81_S16x8732x1_0_0_0) main_v66
  let main_v68 : FVec F S16x8732 .f32 := shapeCast S16x8732 main_v67 shapeCasts_S16x8732x1_S16x8732
  let main_cst_24 : FVec F S_ .f32 := constant S_ .f32 0x00000000#32
  fn_part4 (F := F) main_arg2 main_arg3 main_v44 main_v64 main_v65 main_v66 main_v68 main_cst_24

def fn_part2 {F : FTy → Type} [FloatOps F] (main_arg0 : FVec F S16x8732x85 .f32) (main_arg1 : FVec F S16x8732x85 .f32) (main_arg2 : FVec F S_ .f32) (main_arg3 : FVec F S_ .f32) (main_v1 : FVec F S16x8732x4 .f32) (main_v3 : FVec F S16x8732x4 .f32) (main_v7 : IVec S16x8732 1) (main_v9 : IVec S16 32) (main_v11 : IVec S16 32) (main_v28 : FVec F S_ .f32) (main_v32 : FVec F S16x8732 .f32) (main_v33 : IVec S8732 32) : IVec S_ 1 × IVec S_ 1 :=
  let main_v34 : IVec S1x8732 32 := broadcastInDim S1x8732 ![1] bcast_S8732_S1x8732_1 main_v33
  let main_v35 : IVec S16x1 32 := broadcastInDim S16x1 ![0] bcast_S16_S16x1_0 main_v11
  let main_v36 : IVec S16x8732 32 := broadcastInDim S16x8732 ![0, 1] bcast_S1x8732_S16x8732_0_1 main_v34
  let main_v37 : IVec S16x8732 32 := broadcastInDim S16x8732 ![0, 1] bcast_S16x1_S16x8732_0_1 main_v35
  let main_v38 : IVec S16x8732 1 := cmpi .slt main_v36 main_v37
  let main_cst_12 : FVec F S_ .f32 := constant S_ .f32 0x00000000#32
  let main_v39 : FVec F S16x8732 .f32 := fn_where (F := F) main_v38 main_v32 main_cst_12
  let main_cst_13 : FVec F S_ .f32 := constant S_ .f32 0x00000000#32
  let main_v40 : FVec F S_ .f32 := (fun x v => Host.reduceAdd x v reducesTo_S16x8732_S_d0_1 h_S_) main_v39 main_cst_13
  let main_c_14 : IVec S_ 32 := constantI S_ 32 0#32
  let main_v41 : IVec S_ 32 := (fun x v => Host.reduce IntOp.addi x v reducesTo_S16_S_d0 h_S_) main_v9 main_c_14
  let main_v42 : FVec F S_ .f32 := sitofp .f32 main_v41
  let main_v43 : FVec F S_ .f32 := addf main_v28 main_v40
  let main_v44 : FVec F S_ .f32 := Host.divf main_v43 main_v42
  let main_v45 : FVec F S16x8732x4 .f32 := subf main_v1 main_v3
  let main_v46 : FVec F S16x8732x4 .f32 := Host.absf main_v45
  let main_cst_15 : FVec F S_ .f32 := constant S_ .f32 0x3F800000#32
  let main_v47 : FVec F S16x8732x4 .f32 := broadcastInDim S16x8732x4 ![] bcast_S_S16x8732x4 main_cst_15
  let main_v48 : IVec S16x8732x4 1 := cmpf .olt main_v46 main_v47
  let main_cst_16 : FVec F S_ .f32 := constant S_ .f32 0x3F000000#32
  let main_v49 : FVec F S16x8732x4 .f32 := broadcastInDim S16x8732x4 ![] bcast_S_S16x8732x4 main_cst_16
  let main_v50 : FVec F S16x8732x4 .f32 := mulf main_v49 main_v45
  let main_v51 : FVec F S16x8732x4 .f32 := mulf main_v50 main_v45
  let main_cst_17 : FVec F S_ .f32 := constant S_ .f32 0x3F000000#32
  fn_part3 (F := F) main_arg0 main_arg1 main_arg2 main_arg3 main_v7 main_v42 main_v44 main_v46 main_v48 main_v51 main_cst_17

def fn_part1 {F : FTy → Type} [FloatOps F] (main_arg0 : FVec F S16x8732x85 .f32) (main_arg1 : FVec F S16x8732x85 .f32) (main_arg2 : FVec F S_ .f32) (main_arg3 : FVec F S_ .f32) (main_v0 : FVec F S16x8732x81 .f32) (main_v1 : FVec F S16x8732x4 .f32) (main_v2 : FVec F S16x8732x81 .f32) (main_v3 : FVec F S16x8732x4 .f32) (main_v7 : IVec S16x8732 1) (main_v9 : IVec S16 32) (main_v11 : IVec S16 32) (main_v16 : FVec F S16x8732 .f32) (main_cst_4 : FVec F S_ .f32) : IVec S_ 1 × IVec S_ 1 :=
  let main_v17 : FVec F S16x8732x81 .f32 := broadcastInDim S16x8732x81 ![] bcast_S_S16x8732x81 main_cst_4
  let main_v18 : FVec F S16x8732x81 .f32 := subf main_v17 main_v2
  let main_cst_5 : FVec F S_ .f32 := constant S_ .f32 0x3F800000#32
  let main_v19 : FVec F S16x8732x81 .f32 := broadcastInDim S16x8732x81 ![] bcast_S_S16x8732x81 main_cst_5
  let main_v20 : FVec F S16x8732x81 .f32 := subf main_v19 main_v0
  let main_cst_6 : FVec F S_ .f32 := constant S_ .f32 0x33D6BF95#32
  let main_cst_7 : FVec F S_ .f32 := constant S_ .f32 0x3F7FFFFE#32
  let main_v21 : FVec F S16x8732x81 .f32 := fn_clip (F := F) main_v20 main_cst_6 main_cst_7
  let main_v22 : FVec F S16x8732x81 .f32 := Host.log main_v21
  let main_v23 : FVec F S16x8732x81 .f32 := Host.negf main_v22
  let main_v24 : FVec F S16x8732x81 .f32 := mulf main_v18 main_v23
  let main_cst_8 : FVec F S_ .f32 := constant S_ .f32 0x00000000#32
  let main_v25 : FVec F S16x8732 .f32 := (fun x v => Host.reduceAdd x v reducesTo_S16x8732x81_S16x8732_d2 h_S_) main_v24 main_cst_8
  let main_v26 : FVec F S16x8732 .f32 := addf main_v16 main_v25
  let main_cst_9 : FVec F S_ .f32 := constant S_ .f32 0x00000000#32
  let main_v27 : FVec F S16x8732 .f32 := fn_where (F := F) main_v7 main_v26 main_cst_9
  let main_cst_10 : FVec F S_ .f32 := constant S_ .f32 0x00000000#32
  let main_v28 : FVec F S_ .f32 := (fun x v => Host.reduceAdd x v reducesTo_S16x8732_S_d0_1 h_S_) main_v27 main_cst_10
  let main_cst_11 : FVec F S_ .f32 := constant S_ .f32 0x00000000#32
  let main_v29 : FVec F S16x8732 .f32 := fn_where_0 (F := F) main_v7 main_cst_11 main_v26
  let main_v30 : FVec F S16x8732 .f32 := Host.negf main_v29
  let main_v31 : FVec F S16x8732 .f32 := fn_sort (F := F) main_v30
  let main_v32 : FVec F S16x8732 .f32 := Host.negf main_v31
  let main_v33 : IVec S8732 32 := iotaInDim S8732 32 0
  fn_part2 (F := F) main_arg0 main_arg1 main_arg2 main_arg3 main_v1 main_v3 main_v7 main_v9 main_v11 main_v28 main_v32 main_v33

def fn {F : FTy → Type} [FloatOps F] (main_arg0 : FVec F S16x8732x85 .f32) (main_arg1 : FVec F S16x8732x85 .f32) (main_arg2 : FVec F S_ .f32) (main_arg3 : FVec F S_ .f32) (main_arg4 : FVec F S_ .f32) : IVec S_ 1 × IVec S_ 1 :=
  let main_v0 : FVec F S16x8732x81 .f32 := (extractStridedSlice S16x8732x81 ![0, 0, 0] · slices_S16x8732x85_S16x8732x81_0_0_0) main_arg0
  let main_v1 : FVec F S16x8732x4 .f32 := (extractStridedSlice S16x8732x4 ![0, 0, 81] · slices_S16x8732x85_S16x8732x4_0_0_81) main_arg0
  let main_v2 : FVec F S16x8732x81 .f32 := (extractStridedSlice S16x8732x81 ![0, 0, 0] · slices_S16x8732x85_S16x8732x81_0_0_0) main_arg1
  let main_v3 : FVec F S16x8732x4 .f32 := (extractStridedSlice S16x8732x4 ![0, 0, 81] · slices_S16x8732x85_S16x8732x4_0_0_81) main_arg1
  let main_v4 : FVec F S16x8732x1 .f32 := (extractStridedSlice S16x8732x1 ![0, 0, 0] · slices_S16x8732x81_S16x8732x1_0_0_0) main_v2
  let main_v5 : FVec F S16x8732 .f32 := shapeCast S16x8732 main_v4 shapeCasts_S16x8732x1_S16x8732
  let main_cst : FVec F S_ .f32 := constant S_ .f32 0x00000000#32
  let main_v6 : FVec F S16x8732 .f32 := broadcastInDim S16x8732 ![] bcast_S_S16x8732 main_cst
  let main_v7 : IVec S16x8732 1 := cmpf .oeq main_v5 main_v6
  let main_v8 : IVec S16x8732 32 := (extui 32 · natLt_1_32) main_v7
  let main_c : IVec S_ 32 := constantI S_ 32 0#32
  let main_v9 : IVec S16 32 := (fun x v => Host.reduce IntOp.addi x v reducesTo_S16x8732_S16_d1 h_S_) main_v8 main_c
  let main_c_0 : IVec S_ 32 := constantI S_ 32 3#32
  let main_v10 : IVec S16 32 := broadcastInDim S16 ![] bcast_S_S16 main_c_0
  let main_v11 : IVec S16 32 := muli main_v9 main_v10
  let main_cst_1 : FVec F S_ .f32 := constant S_ .f32 0x33D6BF95#32
  let main_cst_2 : FVec F S_ .f32 := constant S_ .f32 0x3F7FFFFE#32
  let main_v12 : FVec F S16x8732x81 .f32 := fn_clip (F := F) main_v0 main_cst_1 main_cst_2
  let main_v13 : FVec F S16x8732x81 .f32 := Host.log main_v12
  let main_v14 : FVec F S16x8732x81 .f32 := Host.negf main_v13
  let main_v15 : FVec F S16x8732x81 .f32 := mulf main_v2 main_v14
  let main_cst_3 : FVec F S_ .f32 := constant S_ .f32 0x00000000#32
  let main_v16 : FVec F S16x8732 .f32 := (fun x v => Host.reduceAdd x v reducesTo_S16x8732x81_S16x8732_d2 h_S_) main_v15 main_cst_3
  let main_cst_4 : FVec F S_ .f32 := constant S_ .f32 0x3F800000#32
  fn_part1 (F := F) main_arg0 main_arg1 main_arg2 main_arg3 main_v0 main_v1 main_v2 main_v3 main_v7 main_v9 main_v11 main_v16 main_cst_4
-- ==== Pre_inputs_in_range.lean ====
abbrev S16x8732x85 : Shape := ⟨3, ![16, 8732, 85]⟩
abbrev S_ : Shape := ⟨0, ![]⟩

class Facts : Prop where
  bcast_S_S16x8732x85 : S_.BroadcastsInDim S16x8732x85 (![] : Fin 0 → Fin S16x8732x85.rank)

variable [Facts]

def fn {F : FTy → Type} [FloatOps F] (main_arg0 : FVec F S16x8732x85 .f32) (main_arg1 : FVec F S16x8732x85 .f32) : IVec S16x8732x85 1 × IVec S16x8732x85 1 :=
  let main_cst : FVec F S_ .f32 := constant S_ .f32 0x00000000#32
  let main_v0 : FVec F S16x8732x85 .f32 := broadcastInDim S16x8732x85 ![] bcast_S_S16x8732x85 main_cst
  let main_v1 : IVec S16x8732x85 1 := cmpf .oeq main_arg1 main_v0
  let main_cst_0 : FVec F S_ .f32 := constant S_ .f32 0x3F800000#32
  let main_v2 : FVec F S16x8732x85 .f32 := broadcastInDim S16x8732x85 ![] bcast_S_S16x8732x85 main_cst_0
  let main_v3 : IVec S16x8732x85 1 := cmpf .oeq main_arg1 main_v2
  let main_v4 : IVec S16x8732x85 1 := ori main_v1 main_v3
  let main_cst_1 : FVec F S_ .f32 := constant S_ .f32 0x00000000#32
  let main_v5 : FVec F S16x8732x85 .f32 := broadcastInDim S16x8732x85 ![] bcast_S_S16x8732x85 main_cst_1
  let main_v6 : IVec S16x8732x85 1 := cmpf .oge main_arg0 main_v5
  let main_cst_2 : FVec F S_ .f32 := constant S_ .f32 0x3F800000#32
  let main_v7 : FVec F S16x8732x85 .f32 := broadcastInDim S16x8732x85 ![] bcast_S_S16x8732x85 main_cst_2
  let main_v8 : IVec S16x8732x85 1 := cmpf .ole main_arg0 main_v7
  let main_v9 : IVec S16x8732x85 1 := andi main_v6 main_v8
  (main_v4, main_v9)
-- ==== Kernel.lean ====
abbrev S16x8732x85 : Shape := ⟨3, ![16, 8732, 85]⟩
abbrev S85x16x8732 : Shape := ⟨3, ![85, 16, 8732]⟩
abbrev S1x1 : Shape := ⟨2, ![1, 1]⟩
abbrev S_ : Shape := ⟨0, ![]⟩
abbrev S85x16x1024 : Shape := ⟨3, ![85, 16, 1024]⟩
abbrev S16x9216 : Shape := ⟨2, ![16, 9216]⟩
abbrev S16x1 : Shape := ⟨2, ![16, 1]⟩
abbrev S16x1024 : Shape := ⟨2, ![16, 1024]⟩
abbrev S81x16x1024 : Shape := ⟨3, ![81, 16, 1024]⟩
abbrev S1x16x1024 : Shape := ⟨3, ![1, 16, 1024]⟩
abbrev S16 : Shape := ⟨1, ![16]⟩
abbrev S4x16x1024 : Shape := ⟨3, ![4, 16, 1024]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S16x8732x85, .f32⟩
  | .hbm, ⟨1, _⟩ => ⟨S16x8732x85, .f32⟩
  | .hbm, ⟨2, _⟩ => ⟨S85x16x8732, .f32⟩
  | .hbm, ⟨3, _⟩ => ⟨S85x16x8732, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S85x16x1024, .f32⟩
  | .local _ .vmem, ⟨1, _⟩ => ⟨S85x16x1024, .f32⟩
  | .local _ .vmem, ⟨2, _⟩ => ⟨S85x16x1024, .f32⟩
  | .local _ .vmem, ⟨3, _⟩ => ⟨S85x16x1024, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S16x9216, .f32⟩
  | .local _ .vmem, ⟨8, _⟩ => ⟨S16x1, .f32⟩
  | .local _ .vmem, ⟨9, _⟩ => ⟨S16x1, .f32⟩
  | .local _ .vmem, ⟨10, _⟩ => ⟨S16x1, .f32⟩
  | _, _ => ⟨S16x8732x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![9], ![false]⟩

def k0_off1 (i : grid0.Coords) : Fin 2 → Nat :=
  let c0_13 : Index := 0#32
  let arg0 : BitVec 32 := BitVec.ofNat 32 (i 0).val
  let c1024_i32_12 : BitVec 32 := 1024#32
  let v32 : BitVec 32 := Scalar.muli arg0 c1024_i32_12
  let v33 : Index := Scalar.indexCast v32
  ![0, v33.toNat]
def k0_cond3 (i : grid0.Coords) : BitVec 1 :=
  let arg0 : BitVec 32 := BitVec.ofNat 32 (i 0).val
  let c8_i32 : BitVec 32 := 8#32
  let v67 : BitVec 1 := Scalar.cmpi .eq arg0 c8_i32
  let v68 : BitVec 32 := Scalar.extui v67
  let c0_i32_27 : BitVec 32 := 0#32
  let v69 : BitVec 1 := Scalar.cmpi .ne v68 c0_i32_27
  v69

@[reducible] def k0_t1_loop : Scf.Loop 32 :=
  let c0_i32_35 : BitVec 32 := 0#32
  let c24_i32 : BitVec 32 := 24#32
  let v77 : BitVec 32 := Scalar.addi c0_i32_35 c24_i32
  let c1_i32 : BitVec 32 := 1#32
  ⟨c0_i32_35, v77, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S85x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S85x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x8732x85 : Shape := ⟨3, ![16, 8732, 85]⟩
abbrev S16x8732x81 : Shape := ⟨3, ![16, 8732, 81]⟩
abbrev S16x8732x4 : Shape := ⟨3, ![16, 8732, 4]⟩
abbrev S16x8732x1 : Shape := ⟨3, ![16, 8732, 1]⟩
abbrev S16x8732 : Shape := ⟨2, ![16, 8732]⟩
abbrev S_ : Shape := ⟨0, ![]⟩
abbrev S16 : Shape := ⟨1, ![16]⟩
abbrev S8732 : Shape := ⟨1, ![8732]⟩
abbrev S1x8732 : Shape := ⟨2, ![1, 8732]⟩
abbrev S16x1 : Shape := ⟨2, ![16, 1]⟩

abbrev nBuf : Space → Nat
  | .hbm => 112
  | .vmem => 0
  | .smem => 0
  | _ => 0

abbrev bufTy : (tb : Table) → Fin (tcTables nBuf tb) → BufTy
  | .hbm, ⟨0, _⟩ => ⟨S16x8732x85, .f32⟩
  | .hbm, ⟨1, _⟩ => ⟨S16x8732x85, .f32⟩
  | .hbm, ⟨2, _⟩ => ⟨S16x8732x81, .f32⟩
  | .hbm, ⟨3, _⟩ => ⟨S16x8732x4, .f32⟩
  | .hbm, ⟨4, _⟩ => ⟨S16x8732x81, .f32⟩
  | .hbm, ⟨5, _⟩ => ⟨S16x8732x4, .f32⟩
  | .hbm, ⟨6, _⟩ => ⟨S16x8732x1, .f32⟩
  | .hbm, ⟨7, _⟩ => ⟨S16x8732, .f32⟩
  | .hbm, ⟨8, _⟩ => ⟨S_, .f32⟩
  | .hbm, ⟨9, _⟩ => ⟨S16x8732, .f32⟩
  | .hbm, ⟨10, _⟩ => ⟨S16x8732, .i1⟩
  | .hbm, ⟨11, _⟩ => ⟨S16x8732, .i32⟩
  | .hbm, ⟨12, _⟩ => ⟨S_, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x8732x81, .f32⟩
  | .hbm, ⟨21, _⟩ => ⟨S16x8732x81, .f32⟩
  | .hbm, ⟨22, _⟩ => ⟨S_, .f32⟩
  | .hbm, ⟨23, _⟩ => ⟨S16x8732x81, .f32⟩
  | .hbm, ⟨24, _⟩ => ⟨S16x8732x81, .f32⟩
  | .hbm, ⟨25, _⟩ => ⟨S16x8732x81, .f32⟩
  | .hbm, ⟨26, _⟩ => ⟨S16x8732x81, .f32⟩
  | .hbm, ⟨27, _⟩ => ⟨S16x8732x81, .f32⟩
  | .hbm, ⟨28, _⟩ => ⟨S_, .f32⟩
  | .hbm, ⟨29, _⟩ => ⟨S16x8732, .f32⟩
  | .hbm, ⟨30, _⟩ => ⟨S_, .f32⟩
  | .hbm, ⟨31, _⟩ => ⟨S16x8732x81, .f32⟩
  | .hbm, ⟨32, _⟩ => ⟨S16x8732x81, .f32⟩
  | .hbm, ⟨33, _⟩ => ⟨S_, .f32⟩
  | .hbm, ⟨34, _⟩ => ⟨S16x8732x81, .f32⟩
  | .hbm, ⟨35, _⟩ => ⟨S16x8732x81, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16x8732x81, .f32⟩
  | .hbm, ⟨40, _⟩ => ⟨S16x8732x81, .f32⟩
  | .hbm, ⟨41, _⟩ => ⟨S_, .f32⟩
  | .hbm, ⟨42, _⟩ => ⟨S16x8732x81, .f32⟩
  | .hbm, ⟨43, _⟩ => ⟨S16x8732x81, .f32⟩
  | .hbm, ⟨44, _⟩ => ⟨S16x8732x81, .f32⟩
  | .hbm, ⟨45, _⟩ => ⟨S16x8732x81, .f32⟩
  | .hbm, ⟨46, _⟩ => ⟨S16x8732x81, .f32⟩
  | .hbm, ⟨47, _⟩ => ⟨S_, .f32⟩
  | .hbm, ⟨48, _⟩ => ⟨S16x8732, .f32⟩
  | .hbm, ⟨49, _⟩ => ⟨S16x8732, .f32⟩
  | .hbm, ⟨50, _⟩ => ⟨S_, .f32⟩
  | .hbm, ⟨51, _⟩ => ⟨S_, .f32⟩
  | .hbm, ⟨52, _⟩ => ⟨S16x8732, .f32⟩
  | .hbm, ⟨53, _⟩ => ⟨S16x8732, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x8732, .f32⟩
  | .hbm, ⟨59, _⟩ => ⟨S16x8732, .f32⟩
  | .hbm, ⟨60, _⟩ => ⟨S16x8732, .f32⟩
  | .hbm, ⟨61, _⟩ => ⟨S16x8732, .f32⟩
  | .hbm, ⟨62, _⟩ => ⟨S16x8732, .f32⟩
  | .hbm, ⟨63, _⟩ => ⟨S8732, .i32⟩
  | .hbm, ⟨64, _⟩ => ⟨S1x8732, .i32⟩
  | .hbm, ⟨65, _⟩ => ⟨S16x1, .i32⟩
  | .hbm, ⟨66, _⟩ => ⟨S16x8732, .i32⟩
  | .hbm, ⟨67, _⟩ => ⟨S16x8732, .i32⟩
  | .hbm, ⟨68, _⟩ => ⟨S16x8732, .i1⟩
  | .hbm, ⟨69, _⟩ => ⟨S_, .f32⟩
  | .hbm, ⟨70, _⟩ => ⟨S_, .f32⟩
  | .hbm, ⟨71, _⟩ => ⟨S16x8732, .f32⟩
  | .hbm, ⟨72, _⟩ => ⟨S16x8732, .f32⟩
  | .hbm, ⟨73, _⟩ => ⟨S_, .f32⟩
  | .hbm, ⟨74, _⟩ => ⟨S_, .f32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16x8732x4, .f32⟩
  | .hbm, ⟨81, _⟩ => ⟨S16x8732x4, .f32⟩
  | .hbm, ⟨82, _⟩ => ⟨S_, .f32⟩
  | .hbm, ⟨83, _⟩ => ⟨S16x8732x4, .f32⟩
  | .hbm, ⟨84, _⟩ => ⟨S16x8732x4, .i1⟩
  | .hbm, ⟨85, _⟩ => ⟨S_, .f32⟩
  | .hbm, ⟨86, _⟩ => ⟨S16x8732x4, .f32⟩
  | .hbm, ⟨87, _⟩ => ⟨S16x8732x4, .f32⟩
  | .hbm, ⟨88, _⟩ => ⟨S16x8732x4, .f32⟩
  | .hbm, ⟨89, _⟩ => ⟨S_, .f32⟩
  | .hbm, ⟨90, _⟩ => ⟨S16x8732x4, .f32⟩
  | .hbm, ⟨91, _⟩ => ⟨S16x8732x4, .f32⟩
  | .hbm, ⟨92, _⟩ => ⟨S_, .f32⟩
  | .hbm, ⟨93, _⟩ => ⟨S16x8732x4, .f32⟩
  | .hbm, ⟨94, _⟩ => ⟨S16x8732x4, .f32⟩
  | .hbm, ⟨95, _⟩ => ⟨S16x8732x4, .f32⟩
  | .hbm, ⟨96, _⟩ => ⟨S16x8732x1, .i1⟩
  | .hbm, ⟨97, _⟩ => ⟨S_, .f32⟩
  | .hbm, ⟨98, _⟩ => ⟨S_, .f32⟩
  | .hbm, ⟨99, _⟩ => ⟨S16x8732x4, .i1⟩
  | .hbm, ⟨100, _⟩ => ⟨S16x8732x4, .f32⟩
  | .hbm, ⟨101, _⟩ => ⟨S16x8732x4, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S16x8732x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_cst_11 : Ref sig .tc := ⟨.hbm, 56, rfl⟩
abbrev main_call3_v0 : Ref sig .tc := ⟨.hbm, 57, rfl⟩
abbrev main_call3_v1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_call5_v0 : Ref sig .tc := ⟨.hbm, 70, rfl⟩
abbrev main_call5_v1 : Ref sig .tc := ⟨.hbm, 71, rfl⟩
abbrev main_v39 : Ref sig .tc := ⟨.hbm, 72, rfl⟩
abbrev main_cst_13 : Ref sig .tc := ⟨.hbm, 73, rfl⟩
abbrev main_v40 : Ref sig .tc := ⟨.hbm, 74, rfl⟩
abbrev main_c_14 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_15 : Ref sig .tc := ⟨.hbm, 82, rfl⟩
abbrev main_v47 : Ref sig .tc := ⟨.hbm, 83, rfl⟩
abbrev main_v48 : Ref sig .tc := ⟨.hbm, 84, rfl⟩
abbrev main_cst_16 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_17 : Ref sig .tc := ⟨.hbm, 89, rfl⟩
abbrev main_v52 : Ref sig .tc := ⟨.hbm, 90, rfl⟩
abbrev main_v53 : Ref sig .tc := ⟨.hbm, 91, rfl⟩
abbrev main_cst_18 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_19 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_v58 : Ref sig .tc := ⟨.hbm, 101, rfl⟩
abbrev main_cst_20 : Ref sig .tc := ⟨.hbm, 102, rfl⟩
abbrev main_v59 : Ref sig .tc := ⟨.hbm, 103, rfl⟩
abbrev main_cst_21 : Ref sig .tc := ⟨.hbm, 104, rfl⟩
abbrev main_v60 : Ref sig .tc := ⟨.hbm, 105, rfl⟩
abbrev main_v61 : Ref sig .tc := ⟨.hbm, 106, rfl⟩
abbrev main_cst_22 : Ref sig .tc := ⟨.hbm, 107, rfl⟩
abbrev main_v62 : Ref sig .tc := ⟨.hbm, 108, rfl⟩
abbrev main_cst_23 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]
-- ==== ThresholdReferenceIdeal.lean ====
abbrev S16x8732x85 : Shape := ⟨3, ![16, 8732, 85]⟩
abbrev S16x8732x81 : Shape := ⟨3, ![16, 8732, 81]⟩
abbrev S16x8732x4 : Shape := ⟨3, ![16, 8732, 4]⟩
abbrev S16x8732x1 : Shape := ⟨3, ![16, 8732, 1]⟩
abbrev S16x8732 : Shape := ⟨2, ![16, 8732]⟩
abbrev S_ : Shape := ⟨0, ![]⟩
abbrev S16 : Shape := ⟨1, ![16]⟩
abbrev S8732 : Shape := ⟨1, ![8732]⟩
abbrev S1x8732 : Shape := ⟨2, ![1, 8732]⟩
abbrev S16x1 : Shape := ⟨2, ![16, 1]⟩

abbrev nBuf : Space → Nat
  | .hbm => 141
  | .vmem => 0
  | .smem => 0
  | _ => 0

abbrev hbmTy0_0 (i : Nat) : BufTy := match i % 128 with
  | 0 => ⟨S16x8732x85, .f32⟩
  | 1 => ⟨S16x8732x85, .f32⟩
  | 2 => ⟨S16x8732x81, .f32⟩
  | 3 => ⟨S16x8732x4, .f32⟩
  | 4 => ⟨S16x8732x81, .f32⟩
  | 5 => ⟨S16x8732x4, .f32⟩
  | 6 => ⟨S16x8732x1, .f32⟩
  | 7 => ⟨S16x8732, .f32⟩
  | 8 => ⟨S_, .f32⟩
  | 9 => ⟨S16x8732, .f32⟩
  | 10 => ⟨S16x8732, .i1⟩
  | 11 => ⟨S16x8732, .i32⟩
  | 12 => ⟨S_, .i32⟩
  | 13 => ⟨S16, .i32⟩
  | 14 => ⟨S_, .i32⟩
  | 15 => ⟨S16, .i32⟩
  | 16 => ⟨S16, .i32⟩
  | 17 => ⟨S_, .f32⟩
  | 18 => ⟨S16x8732x81, .f32⟩
  | 19 => ⟨S16x8732x81, .f32⟩
  | 20 => ⟨S16x8732x81, .f32⟩
  | 21 => ⟨S16x8732x81, .f32⟩
  | 22 => ⟨S16x8732x81, .f32⟩
  | 23 => ⟨S_, .f32⟩
  | 24 => ⟨S16x8732, .f32⟩
  | 25 => ⟨S_, .f32⟩
  | 26 => ⟨S16x8732x81, .f32⟩
  | 27 => ⟨S16x8732x81, .f32⟩
  | 28 => ⟨S_, .f32⟩
  | 29 => ⟨S16x8732x81, .f32⟩
  | 30 => ⟨S16x8732x81, .f32⟩
  | 31 => ⟨S_, .f32⟩
  | 32 => ⟨S16x8732x81, .f32⟩
  | 33 => ⟨S16x8732x81, .f32⟩
  | 34 => ⟨S16x8732x81, .f32⟩
  | 35 => ⟨S16x8732x81, .f32⟩
  | 36 => ⟨S16x8732x81, .f32⟩
  | 37 => ⟨S_, .f32⟩
  | 38 => ⟨S16x8732, .f32⟩
  | 39 => ⟨S16x8732, .f32⟩
  | 40 => ⟨S_, .f32⟩
  | 41 => ⟨S_, .f32⟩
  | 42 => ⟨S16x8732, .f32⟩
  | 43 => ⟨S16x8732, .f32⟩
  | 44 => ⟨S_, .f32⟩
  | 45 => ⟨S_, .f32⟩
  | 46 => ⟨S_, .f32⟩
  | 47 => ⟨S_, .f32⟩
  | 48 => ⟨S16x8732, .f32⟩
  | 49 => ⟨S16x8732, .f32⟩
  | 50 => ⟨S16x8732, .f32⟩
  | 51 => ⟨S16x8732, .f32⟩
  | 52 => ⟨S16x8732, .f32⟩
  | 53 => ⟨S_, .f32⟩
  | 54 => ⟨S16, .f32⟩
  | 55 => ⟨S8732, .i32⟩
  | 56 => ⟨S1x8732, .i32⟩
  | 57 => ⟨S16x1, .i32⟩
  | 58 => ⟨S16x8732, .i32⟩
  | 59 => ⟨S16x8732, .i32⟩
  | 60 => ⟨S16x8732, .i1⟩
  | 61 => ⟨S16x1, .f32⟩
  | 62 => ⟨S16x8732, .f32⟩
  | 63 => ⟨S16x8732, .f32⟩
  | 64 => ⟨S_, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .i1⟩
  | 72 => ⟨S_, .f32⟩
  | 73 => ⟨S_, .f32⟩
  | 74 => ⟨S16, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16, .f32⟩
  | 88 => ⟨S_, .f32⟩
  | 89 => ⟨S16, .f32⟩
  | 90 => ⟨S16, .f32⟩
  | 91 => ⟨S16x1, .f32⟩
  | 92 => ⟨S16x8732, .f32⟩
  | 93 => ⟨S16x8732, .f32⟩
  | 94 => ⟨S_, .f32⟩
  | 95 => ⟨S16x8732, .f32⟩
  | 96 => ⟨S16x8732, .f32⟩
  | 97 => ⟨S_, .f32⟩
  | 98 => ⟨S16, .f32⟩
  | 99 => ⟨S16, .f32⟩
  | 100 => ⟨S16, .f32⟩
  | 101 => ⟨S16, .f32⟩
  | 102 => ⟨S_, .f32⟩
  | 103 => ⟨S_, .f32⟩
  | 104 => ⟨S_, .i32⟩
  | 105 => ⟨S_, .i32⟩
  | 106 => ⟨S_, .f32⟩
  | 107 => ⟨S_, .f32⟩
  | 108 => ⟨S_, .f32⟩
  | 109 => ⟨S16x8732x4, .f32⟩
  | 110 => ⟨S16x8732x4, .f32⟩
  | 111 => ⟨S_, .f32⟩
  | 112 => ⟨S16x8732x4, .f32⟩
  | 113 => ⟨S16x8732x4, .i1⟩
  | 114 => ⟨S_, .f32⟩
  | 115 => ⟨S16x8732x4, .f32⟩
  | 116 => ⟨S16x8732x4, .f32⟩
  | 117 => ⟨S16x8732x4, .f32⟩
  | 118 => ⟨S_, .f32⟩
  | 119 => ⟨S16x8732x4, .f32⟩
  | 120 => ⟨S16x8732x4, .f32⟩
  | 121 => ⟨S_, .f32⟩
  | 122 => ⟨S16x8732x4, .f32⟩
  | 123 => ⟨S16x8732x4, .f32⟩
  | 124 => ⟨S16x8732x4, .f32⟩
  | 125 => ⟨S16x8732x1, .i1⟩
  | 126 => ⟨S_, .f32⟩
  | 127 => ⟨S_, .f32⟩
  | _ => ⟨S16x8732x85, .f32⟩

abbrev hbmTy0_1 (i : Nat) : BufTy := match i % 128 with
  | 0 => ⟨S16x8732x4, .i1⟩
  | 1 => ⟨S16x8732x4, .f32⟩
  | 2 => ⟨S16x8732x4, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S16x8732x85, .f32⟩

abbrev hbmTy (i : Nat) : BufTy := match i / 128 with
  | 0 => hbmTy0_0 i
  | 1 => hbmTy0_1 i
  | _ => ⟨S16x8732x85, .f32⟩

abbrev bufTy : (tb : Table) → Fin (tcTables nBuf tb) → BufTy
  | .hbm, ⟨i, _⟩ => hbmTy i
  | _, _ => ⟨S16x8732x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call3_v0 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_call4_v0 : Ref sig .tc := ⟨.hbm, 73, rfl⟩
abbrev main_call4_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_cst_16 : Ref sig .tc := ⟨.hbm, 81, rfl⟩
abbrev main_v54 : Ref sig .tc := ⟨.hbm, 82, rfl⟩
abbrev main_v55 : Ref sig .tc := ⟨.hbm, 83, rfl⟩
abbrev main_cst_17 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_v70 : Ref sig .tc := ⟨.hbm, 103, rfl⟩
abbrev main_c_22 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_cst_24 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_25 : Ref sig .tc := ⟨.hbm, 118, rfl⟩
abbrev main_v82 : Ref sig .tc := ⟨.hbm, 119, rfl⟩
abbrev main_v83 : Ref sig .tc := ⟨.hbm, 120, rfl⟩
abbrev main_cst_26 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_27 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_v88 : Ref sig .tc := ⟨.hbm, 130, rfl⟩
abbrev main_cst_28 : Ref sig .tc := ⟨.hbm, 131, rfl⟩
abbrev main_v89 : Ref sig .tc := ⟨.hbm, 132, rfl⟩
abbrev main_cst_29 : Ref sig .tc := ⟨.hbm, 133, rfl⟩
abbrev main_v90 : Ref sig .tc := ⟨.hbm, 134, rfl⟩
abbrev main_v91 : Ref sig .tc := ⟨.hbm, 135, rfl⟩
abbrev main_cst_30 : Ref sig .tc := ⟨.hbm, 136, rfl⟩
abbrev main_v92 : Ref sig .tc := ⟨.hbm, 137, rfl⟩
abbrev main_cst_31 : Ref sig .tc := ⟨.hbm, 138, rfl⟩
abbrev main_v93 : Ref sig .tc := ⟨.hbm, 139, rfl⟩
abbrev main_v94 : Ref sig .tc := ⟨.hbm, 140, rfl⟩

abbrev nD : Nat := 1
abbrev τ : Topo := Topo.v7x

variable {F : FTy → Type} [FloatOps F]
-- ==== Proof.FrameBits.lean ====
/-
  The frame of the kernel program as printed: it runs to the end from any memory, faults nowhere and leaves both
  arguments as they were. The three outputs' staging buffers and the scratch are held at contents not named.
-/
module

public import proofs.«01_k».proof.Proof.BodyBits
public import Idealize.ShloMosaic.Lib.Pipeline.KitQuiescent

@[expose] public section

set_option maxRecDepth 16384

noncomputable section

namespace Cert.Kernel.Run

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' blocks stay as fetched; the outputs are not named; the scratch is held at any contents. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => fun _ => Scalar.ofBits .f32 0#32
    | ⟨3, _⟩ => fun _ => Scalar.ofBits .f32 0#32
    | ⟨4, _⟩ => fun _ => Scalar.ofBits .f32 0#32
  Φ _ := Pipeline.ΦA spec0 c
  q _ := fullShare
  owed _ := 0

/-- The output windows are not named. -/
def fgt : Fin cfg0.W → Bool
  | ⟨0, _⟩ => false
  | ⟨1, _⟩ => false
  | _ => true

/-- The inputs' blocks as the body finds them. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl
theorem before_1 (c : Dev nD) (t : Fin cfg0.N) (d) :
    (dats m 0 c).before (1 : Fin 5) t d = win0_1.fill (grid0.coords t) d (iblk m c 1 t) := by
  unfold Dat.before; rw [if_pos (fetch0_1 t)]; rfl

/-- What the body finds and leaves at a point. -/
theorem body_obligation (c : Dev nD) : BodyObligationLoose (dats m 0 c) (defs₀ (F := F)) Variants.none () Set.univ fgt := fun t => by
  rw [bigSep_W0, bigSep_W0]
  have f0 : fgt 0 = false := rfl
  have f1 : fgt 1 = false := rfl
  have f2 : fgt 2 = true := rfl
  have f3 : fgt 3 = true := rfl
  have f4 : fgt 4 = true := rfl
  simp only [f0, f1, f2, f3, f4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  change _ ⊢ wp frame (wpE (defs₀ (F := F)) Variants.none c none) Set.univ (bodyAt0 t) _
  iintro ⟨⟨⟨⟨%g0, G0⟩, ⟨%g1, G1⟩, ⟨%g2, G2⟩, ⟨%g3, G3⟩⟩, Hp⟩, Ho, ⟨%d0, H0⟩, ⟨%d1, H1⟩, ⟨%X2, H2⟩, ⟨%X3, H3⟩, ⟨%X4, H4⟩⟩
  rw [before_0 m c t d0, before_1 m c t d1]
  have hx : win0_0.cut (grid0.coords t) ((dats m 0 c).after (0 : Fin 5) t) = iblk m c 0 t := win0_0.cut_fill _ _ _
  have hy : win0_1.cut (grid0.coords t) ((dats m 0 c).after (1 : Fin 5) t) = iblk m c 1 t := win0_1.cut_fill _ _ _
  by_cases hi : k0_cond3 (grid0.coords t) = 1#1
  · iapply (Body.last (F := F) c (grid0.coords t) hi (win0_0.stage (cfg0.slots t 0)) (win0_1.stage (cfg0.slots t 1)) (hstage0_0 ((cfg0.slots t 0).cast nbuf0_0)) (hstage0_1 ((cfg0.slots t 1).cast nbuf0_1))
      (win0_2.stage (cfg0.slots t 2)) (win0_3.stage (cfg0.slots t 3)) (win0_4.stage (cfg0.slots t 4)) (hstage0_2 ((cfg0.slots t 2).cast nbuf0_2)) (hstage0_3 ((cfg0.slots t 3).cast nbuf0_3)) (hstage0_4 ((cfg0.slots t 4).cast nbuf0_4))
      (win0_0.fill (grid0.coords t) d0 (iblk m c 0 t)) (win0_1.fill (grid0.coords t) d1 (iblk m c 1 t)) X2 X3 X4 g0 g1 g2 g3 _)
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    isplitl [G3]; · iexact G3
    iintro ⟨H0, H1, H2, H3, H4, G0, G1, G2, G3⟩
    isplitl [G0 G1 G2 G3 Hp]
    · isplitr [Hp]
      · isplitl [G0]; · iexact G0
        isplitl [G1]; · iexact G1
        isplitl [G2]; · iexact G2
        iexact G3
      · iexact Hp
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after (0 : Fin 5) t)))
      rw [hx]; try iexact H0
    isplitl [H1]
    · iexists d1
      change _ ⊢ owns (c : Thread nD τ) (stage0_1 (cfg0.slots t 1)) fullShare (win0_1.fill (grid0.coords t) d1 (win0_1.cut (grid0.coords t) ((dats m 0 c).after (1 : Fin 5) t)))
      rw [hy]; try iexact H1
    isplitl [H2]; · iexists _; iexact H2
    isplitl [H3]; · iexists _; iexact H3
    iexists _; iexact H4
  · iapply (Body.middle (F := F) c (grid0.coords t) hi (win0_0.stage (cfg0.slots t 0)) (win0_1.stage (cfg0.slots t 1)) (hstage0_0 ((cfg0.slots t 0).cast nbuf0_0)) (hstage0_1 ((cfg0.slots t 1).cast nbuf0_1))
      (win0_2.stage (cfg0.slots t 2)) (win0_3.stage (cfg0.slots t 3)) (win0_4.stage (cfg0.slots t 4)) (hstage0_2 ((cfg0.slots t 2).cast nbuf0_2)) (hstage0_3 ((cfg0.slots t 3).cast nbuf0_3)) (hstage0_4 ((cfg0.slots t 4).cast nbuf0_4))
      (win0_0.fill (grid0.coords t) d0 (iblk m c 0 t)) (win0_1.fill (grid0.coords t) d1 (iblk m c 1 t)) g0 g1 g2 g3 _)
    isplitl [H0]; · iexact H0
    isplitl [H1]; · iexact H1
    isplitl [G0]; · iexact G0
    isplitl [G1]; · iexact G1
    isplitl [G2]; · iexact G2
    isplitl [G3]; · iexact G3
    iintro ⟨H0, H1, G0, G1, G2, G3⟩
    isplitl [G0 G1 G2 G3 Hp]
    · isplitr [Hp]
      · isplitl [G0]; · iexists _; iexact G0
        isplitl [G1]; · iexists _; iexact G1
        isplitl [G2]; · iexists _; iexact G2
        iexists _; iexact G3
      · iexact Hp
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after (0 : Fin 5) t)))
      rw [hx]; try iexact H0
    isplitl [H1]
    · iexists d1
      change _ ⊢ owns (c : Thread nD τ) (stage0_1 (cfg0.slots t 1)) fullShare (win0_1.fill (grid0.coords t) d1 (win0_1.cut (grid0.coords t) ((dats m 0 c).after (1 : Fin 5) t)))
      rw [hy]; try iexact H1
    isplitl [H2]; · iexists _; iexact H2
    isplitl [H3]; · iexists _; iexact H3
    iexists _; iexact H4

/-- The host operations after the region write the three results only. -/
theorem tail_writes : ∀ ops ∈ ([hostOps1] : List (List (HloOp τ sig (Elt F)))), ∀ op ∈ ops, ∀ b : Ref sig .tc,
    Proc.devRef .tc b ∈ op.writes → b ∈ ({main_v0_0, main_v0_1, main_v0_2} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have hb' := Proc.devRef_injective _ hb
    subst hb'
    decide

-- the launch theorem's implicit arguments are found by unifying its conclusion with this one
set_option backward.isDefEq.respectTransparency.types false in
/-- Every run ends with both arguments as they were and every counter at zero. -/
theorem run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget cfgs (dats m) 0 launch0 defs₀ Variants.none fgt {main_v0_0, main_v0_1, main_v0_2} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := tail_writes)
    (hmain := hmain m Variants.none) (hA := fun _ _ => rfl) (hΦ := fun _ _ => rfl)
    (Q' := fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩, h.2⟩)

end Cert.Kernel.Run
end
-- ==== Proof.Body.lean ====
module

public import proofs.«01_k».proof.Proof.Gen.KernelIdeal.Frame
public import proofs.«01_k».proof.Proof.Gen.KernelIdeal.Points
public import proofs.«01_k».proof.Proof.Gen.KernelIdeal.Loops
public import Idealize.ShloMosaic.Lib.Pipeline.ValueKit
public import Idealize.ShloMosaic.Lib.Tactic
public import Idealize.ShloMosaic.Lib.Pipeline.Kit

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The scratch's three row totals after the body at grid point `i`, from what they held: set at the first point, added to later. -/
def nposN (i : grid0.Coords) (p g : Vec F S85x16x1024 .f32) (a : Vec F S16x1 .f32) : Vec F S16x1 .f32 :=
  if (i 0).val = 0 then k0_pay4 (k0_pay29 i g) (Scalar.ofBits .f32 0x00000000#32) (k0_pay31 (F := F))
  else k0_pay7 (k0_pay29 i g) (Scalar.ofBits .f32 0x00000000#32) (k0_pay31 (F := F)) a
def posN (i : grid0.Coords) (p g : Vec F S85x16x1024 .f32) (a : Vec F S16x1 .f32) : Vec F S16x1 .f32 :=
  if (i 0).val = 0 then k0_pay5 (k0_pay28 p g) (k0_pay29 i g)
  else k0_pay8 (k0_pay28 p g) (k0_pay29 i g) a
def hubN (i : grid0.Coords) (p g : Vec F S85x16x1024 .f32) (a : Vec F S16x1 .f32) : Vec F S16x1 .f32 :=
  if (i 0).val = 0 then k0_pay6 (k0_pay25 p) (k0_pay26 g) (k0_pay29 i g)
  else k0_pay9 (k0_pay25 p) (k0_pay26 g) (k0_pay29 i g) a

theorem hz2 : (![0, 0] : Fin 2 → Nat) = fun _ => 0 := funext fun a => by fin_cases a <;> rfl
theorem hz3 : (![0, 0, 0] : Fin 3 → Nat) = fun _ => 0 := funext fun a => by fin_cases a <;> rfl

/-- The bisection: 24 halvings of the interval from zero to the row's greatest entropy. -/
def bis (E : Vec F S16x9216 .f32) (N : Vec F S16x1 .f32) : FVec F S16x1 .f32 × FVec F S16x1 .f32 :=
  Scf.fold (fun (_ : Fin k0_t1_loop.trips) (a : FVec F S16x1 .f32 × FVec F S16x1 .f32) => (k0_pay20 E N a.1 a.2, k0_pay21 E N a.1 a.2))
    (k0_pay16 (F := F), k0_pay17 E)

/-- The three results the last point stores, from the entropies and the row totals. -/
def outAll (E : Vec F S16x9216 .f32) (N P H : Vec F S16x1 .f32) : FVec F S1x1 .f32 :=
  k0_pay12 (k0_pay22 E N (bis E N).1 (bis E N).2) (k0_pay23 N) (k0_pay24 P) H
def outConf (E : Vec F S16x9216 .f32) (N P : Vec F S16x1 .f32) : FVec F S1x1 .f32 :=
  k0_pay13 (k0_pay22 E N (bis E N).1 (bis E N).2) (k0_pay23 N) (k0_pay24 P)
def outLoc (N H : Vec F S16x1 .f32) : FVec F S1x1 .f32 :=
  k0_pay14 (k0_pay23 N) H

/-- The entropies' scratch after the store of block `i`. -/
def entN (i : grid0.Coords) (p g : Vec F S85x16x1024 .f32) (a : Vec F S16x9216 .f32) : Vec F S16x9216 .f32 :=
  (Memref.whole cc0_scratch0 : Memref sig .tc _ _ _).view.writes (Elt F) a
    [⟨Rect.unit (s := S16x9216) (k0_off1 i) S16x1024.size (k0_off1_inb i), k0_pay30 i p g⟩]

theorem first_iff : ∀ i : grid0.Coords, (Scalar.cmpi .ne (Scalar.extui (Scalar.cmpi .eq (BitVec.ofNat 32 (i 0).val) 0#32) : BitVec 32) 0#32 = 1#1) ↔ (i 0).val = 0 := by
  intro i
  generalize h : i 0 = k
  revert k
  have : ∀ k : Fin 9, (Scalar.cmpi .ne (Scalar.extui (Scalar.cmpi .eq (BitVec.ofNat 32 k.val) 0#32) : BitVec 32) 0#32 = 1#1) ↔ k.val = 0 := by decide
  exact fun k _ => this k
theorem later_iff : ∀ i : grid0.Coords, (Scalar.cmpi .ne (Scalar.extui (Scalar.cmpi .sgt (BitVec.ofNat 32 (i 0).val) 0#32) : BitVec 32) 0#32 = 1#1) ↔ ¬ (i 0).val = 0 := by
  intro i
  generalize h : i 0 = k
  revert k
  have : ∀ k : Fin 9, (Scalar.cmpi .ne (Scalar.extui (Scalar.cmpi .sgt (BitVec.ofNat 32 k.val) 0#32) : BitVec 32) 0#32 = 1#1) ↔ ¬ k.val = 0 := by decide
  exact fun k _ => this k

theorem not_last : ∀ i : grid0.Coords, (i 0).val = 0 → ¬ k0_cond3 i = 1#1 := by
  intro i
  have : ∀ k : Fin 9, k.val = 0 → ¬ (Scalar.cmpi .ne (Scalar.extui (Scalar.cmpi .eq (BitVec.ofNat 32 k.val) 8#32) : BitVec 32) 0#32 = 1#1) := by decide
  exact this (i 0)

/-- A load of the whole of a memref's shape reads what the memref reads. -/
theorem readAt_all {sp : Space} {S : Shape} {e : EltTy} (v : View sig .tc sp S e) (f : v.ty.Contents (Elt F)) {off : Fin S.rank → Nat}
    (h : off = fun _ => 0) (inb : ∀ a, off a + S.size a ≤ S.size a) :
    v.readAt (Elt F) (Rect.unit (s := S) off S.size inb).toLoadRect f = v.read (Elt F) f := by
  subst h
  rw [View.readAt_eq_ld]
  funext y
  unfold View.ld
  congr 1
  funext a; apply Fin.ext; simp [Rect.unit]
/-- A store of the whole of a memref's shape leaves its payload. -/
theorem read_writes_all {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit (s := S) off S.size inb, w⟩ :: L)) = w := by
  subst h
  rw [View.read_writes_eq_canon]
  · exact View.canon_cons_unit_zero rfl inb w L
  · intro y
    refine ⟨_, List.mem_cons_self, ?_⟩
    rw [Rect.mem_set_unit]
    intro a
    exact ⟨Nat.zero_le _, by simpa using (y a).isLt⟩

/-- An owned memref that is a whole buffer is its buffer held whole at contents it reads so. -/
theorem owns_open (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem pt_of_eq (c : Dev nD) {sp : Space} {S : Shape} {e : EltTy} (M : Memref sig .tc sp S e) {f f' : Bf (F := F) c M} (h : f = f') :
    (pt c M f : sProp 𝕄) ⊢ pt c M f' := by
  subst h; exact .rfl

/-- The body at a point that is not the last, from the two blocks and the scratch. -/
theorem middle (c : Dev nD) (i : grid0.Coords) (hi : ¬ k0_cond3 i = 1#1)
    (M1 M2 : Memref sig .tc .vmem S85x16x1024 .f32) (h1 : M1.IsWhole) (h2 : M2.IsWhole)
    (M3 M4 M5 : Memref sig .tc .vmem S1x1 .f32) (h3 : M3.IsWhole) (h4 : M4.IsWhole) (h5 : M5.IsWhole)
    (X1 X2 : Vec F S85x16x1024 .f32)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3))
    (Q : PUnit → sProp 𝕄) :
    iprop(owns (c : Thread nD τ) M1 fullShare X1 ∗ owns (c : Thread nD τ) M2 fullShare X2 ∗ pt c (Memref.whole cc0_scratch0) g0 ∗ pt c (Memref.whole cc0_scratch1) g1
        ∗ pt c (Memref.whole cc0_scratch2) g2 ∗ pt c (Memref.whole cc0_scratch3) g3
      ∗ (iprop(owns (c : Thread nD τ) M1 fullShare X1 ∗ owns (c : Thread nD τ) M2 fullShare X2
            ∗ pt c (Memref.whole cc0_scratch0) (entN i X1 X2 g0) ∗ pt c (Memref.whole cc0_scratch1) (nposN i X1 X2 g1)
            ∗ pt c (Memref.whole cc0_scratch2) (posN i X1 X2 g2) ∗ pt c (Memref.whole cc0_scratch3) (hubN i X1 X2 g3)) -∗ Q ⟨⟩))
    ⊢ wp frame (wpE (defs₀ (F := F)) Variants.none c none) Set.univ
        (cc0__body i M1 h1 M2 h2 M3 h3 M4 h4 M5 h5 (Memref.whole cc0_scratch0) (Memref.isWhole_whole _) (Memref.whole cc0_scratch1) (Memref.isWhole_whole _)
          (Memref.whole cc0_scratch2) (Memref.isWhole_whole _) (Memref.whole cc0_scratch3) (Memref.isWhole_whole _)) Q := by
  rw [owns_open c M1 h1, owns_open c M2 h2]
  iintro ⟨⟨%f1, %hf1, H1⟩, ⟨%f2, %hf2, H2⟩, G0, G1, G2, G3, Hk⟩
  rw [cc0__body_eq_skeleton]
  sl_exec!
  sl_step
  have e1 := (readAt_all M1.view f1 hz3 inb_S85x16x1024_S85x16x1024_0_0_0).trans hf1
  have e2 := (readAt_all M2.view f2 hz3 inb_S85x16x1024_S85x16x1024_0_0_0).trans hf2
  have r0 : middle.sl.r c M1 f1 = k0_pay25 X1 := by rw [← e1]; unfold middle.sl.r; rfl
  have r1 : middle.sl.r_1 c M2 f2 = k0_pay26 X2 := by rw [← e2]; unfold middle.sl.r_1; rfl
  have r2 : middle.sl.r_2 c M1 M2 f1 f2 = k0_pay28 X1 X2 := by rw [← e1, ← e2]; unfold middle.sl.r_2; rfl
  have r3 : middle.sl.r_3 c i M2 f2 = k0_pay29 i X2 := by rw [← e2]; unfold middle.sl.r_3; rfl
  have r4 : middle.sl.cst_15 = Scalar.ofBits (F := F) .f32 0x00000000#32 := by unfold middle.sl.cst_15; rfl
  have hF : middle.sl.v63 i = 1#1 ↔ (i 0).val = 0 := first_iff i
  have hL : middle.sl.v66 i = 1#1 ↔ ¬ (i 0).val = 0 := later_iff i
  iapply Hk
  isplitl [H1]
  · iexists f1
    isplitr
    · ipureintro; exact hf1
    iexact H1
  isplitl [H2]
  · iexists f2
    isplitr
    · ipureintro; exact hf2
    iexact H2
  isplitl [G0]
  · rw [← e1, ← e2]; iexact G0
  by_cases h0 : (i 0).val = 0
  · simp only [hF, hL, h0, not_true_eq_false, dite_true, dite_false, nposN, posN, hubN, if_true, r0, r1, r2, r3, r4]
    isplitl [G1]
    · iapply pt_of_eq c (Memref.whole cc0_scratch1) (read_writes_all (View.whole cc0_scratch1) g1 hz2 inb_S16x1_S16x1_0_0 (k0_pay4 (k0_pay29 i X2) (Scalar.ofBits .f32 0x00000000#32) (k0_pay31 (F := F))) [])
      iexact G1
    isplitl [G2]
    · iapply pt_of_eq c (Memref.whole cc0_scratch2) (read_writes_all (View.whole cc0_scratch2) g2 hz2 inb_S16x1_S16x1_0_0 (k0_pay5 (k0_pay28 X1 X2) (k0_pay29 i X2)) [])
      iexact G2
    iapply pt_of_eq c (Memref.whole cc0_scratch3) (read_writes_all (View.whole cc0_scratch3) g3 hz2 inb_S16x1_S16x1_0_0 (k0_pay6 (k0_pay25 X1) (k0_pay26 X2) (k0_pay29 i X2)) [])
    iexact G3
  · have e70 : middle.sl.v70 c i M2 g1 f2 = g1 := by
      unfold middle.sl.v70
      simp only [hF, h0, dite_false]
      exact readAt_all (View.whole cc0_scratch1) g1 hz2 inb_S16x1_S16x1_0_0
    have e75 : middle.sl.v75 c i M1 M2 g2 f1 f2 = g2 := by
      unfold middle.sl.v75
      simp only [hF, h0, dite_false]
      exact readAt_all (View.whole cc0_scratch2) g2 hz2 inb_S16x1_S16x1_0_0
    have e80 : middle.sl.v80 c i M1 M2 g3 f1 f2 = g3 := by
      unfold middle.sl.v80
      simp only [hF, h0, dite_false]
      exact readAt_all (View.whole cc0_scratch3) g3 hz2 inb_S16x1_S16x1_0_0
    simp only [hF, hL, h0, not_false_eq_true, dite_true, dite_false, nposN, posN, hubN, if_false, r0, r1, r2, r3, r4, e70, e75, e80]
    isplitl [G1]
    · iapply pt_of_eq c (Memref.whole cc0_scratch1) (read_writes_all (View.whole cc0_scratch1) g1 hz2 inb_S16x1_S16x1_0_0 (k0_pay7 (k0_pay29 i X2) (Scalar.ofBits .f32 0x00000000#32) (k0_pay31 (F := F)) g1) [])
      iexact G1
    isplitl [G2]
    · iapply pt_of_eq c (Memref.whole cc0_scratch2) (read_writes_all (View.whole cc0_scratch2) g2 hz2 inb_S16x1_S16x1_0_0 (k0_pay8 (k0_pay28 X1 X2) (k0_pay29 i X2) g2) [])
      iexact G2
    iapply pt_of_eq c (Memref.whole cc0_scratch3) (read_writes_all (View.whole cc0_scratch3) g3 hz2 inb_S16x1_S16x1_0_0 (k0_pay9 (k0_pay25 X1) (k0_pay26 X2) (k0_pay29 i X2) g3) [])
    iexact G3

/-- A load of the whole of the entropies' scratch. -/
theorem readAt_ent (W : Vec F S16x9216 .f32) :
    (Memref.whole cc0_scratch0).view.readAt (Elt F) (Rect.unit ![0, 0] S16x9216.size inb_S16x9216_S16x9216_0_0).toLoadRect W = W :=
  readAt_all (Memref.whole cc0_scratch0).view W hz2 inb_S16x9216_S16x9216_0_0

/-- A one-by-one memref after its whole store reads the payload. -/
theorem owns_stored (c : Dev nD) (M : Memref sig .tc .vmem S1x1 .f32) (w : Vec F S1x1 .f32) :
    (pt c M (M.view.writes (Elt F) M.view.junk [⟨Rect.unit ![0, 0] S1x1.size inb_S1x1_S1x1_0_0, w⟩]) : sProp 𝕄)
      ⊢ iprop(∃ f : Bf (F := F) c M, ⌜M.view.read (Elt F) f = w⌝ ∗ pt c M f) := by
  iintro H
  iexists _
  isplitr
  rotate_left
  · iexact H
  · ipureintro; exact read_writes_all M.view _ hz2 inb_S1x1_S1x1_0_0 w []

set_option maxHeartbeats 1000000 in
/-- The body at the last point: as `middle`, and the three results stored from the scratch after it. -/
theorem last (c : Dev nD) (i : grid0.Coords) (hi : k0_cond3 i = 1#1)
    (M1 M2 : Memref sig .tc .vmem S85x16x1024 .f32) (h1 : M1.IsWhole) (h2 : M2.IsWhole)
    (M3 M4 M5 : Memref sig .tc .vmem S1x1 .f32) (h3 : M3.IsWhole) (h4 : M4.IsWhole) (h5 : M5.IsWhole)
    (X1 X2 : Vec F S85x16x1024 .f32) (Y3 Y4 Y5 : Vec F S1x1 .f32)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3))
    (Q : PUnit → sProp 𝕄) :
    iprop(owns (c : Thread nD τ) M1 fullShare X1 ∗ owns (c : Thread nD τ) M2 fullShare X2
        ∗ owns (c : Thread nD τ) M3 fullShare Y3 ∗ owns (c : Thread nD τ) M4 fullShare Y4 ∗ owns (c : Thread nD τ) M5 fullShare Y5
        ∗ pt c (Memref.whole cc0_scratch0) g0 ∗ pt c (Memref.whole cc0_scratch1) g1
        ∗ pt c (Memref.whole cc0_scratch2) g2 ∗ pt c (Memref.whole cc0_scratch3) g3
      ∗ (iprop(owns (c : Thread nD τ) M1 fullShare X1 ∗ owns (c : Thread nD τ) M2 fullShare X2
            ∗ owns (c : Thread nD τ) M3 fullShare (outAll (entN i X1 X2 g0) (nposN i X1 X2 g1) (posN i X1 X2 g2) (hubN i X1 X2 g3))
            ∗ owns (c : Thread nD τ) M4 fullShare (outConf (entN i X1 X2 g0) (nposN i X1 X2 g1) (posN i X1 X2 g2))
            ∗ owns (c : Thread nD τ) M5 fullShare (outLoc (nposN i X1 X2 g1) (hubN i X1 X2 g3))
            ∗ (∃ g, pt c (Memref.whole cc0_scratch0) g) ∗ (∃ g, pt c (Memref.whole cc0_scratch1) g)
            ∗ (∃ g, pt c (Memref.whole cc0_scratch2) g) ∗ (∃ g, pt c (Memref.whole cc0_scratch3) g)) -∗ Q ⟨⟩))
    ⊢ wp frame (wpE (defs₀ (F := F)) Variants.none c none) Set.univ
        (cc0__body i M1 h1 M2 h2 M3 h3 M4 h4 M5 h5 (Memref.whole cc0_scratch0) (Memref.isWhole_whole _) (Memref.whole cc0_scratch1) (Memref.isWhole_whole _)
          (Memref.whole cc0_scratch2) (Memref.isWhole_whole _) (Memref.whole cc0_scratch3) (Memref.isWhole_whole _)) Q := by
  rw [owns_open c M1 h1, owns_open c M2 h2, owns_open c M3 h3, owns_open c M4 h4, owns_open c M5 h5, owns_open c M3 h3, owns_open c M4 h4, owns_open c M5 h5]
  iintro ⟨⟨%f1, %hf1, H1⟩, ⟨%f2, %hf2, H2⟩, ⟨%f3, %hf3, H3⟩, ⟨%f4, %hf4, H4⟩, ⟨%f5, %hf5, H5⟩, G0, G1, G2, G3, Hk⟩
  rw [cc0__body_eq_skeleton]
  sl_exec!
  sl_step
  have e1 := (readAt_all M1.view f1 hz3 inb_S85x16x1024_S85x16x1024_0_0_0).trans hf1
  have e2 := (readAt_all M2.view f2 hz3 inb_S85x16x1024_S85x16x1024_0_0_0).trans hf2
  have r0 : last.sl.r c M1 f1 = k0_pay25 X1 := by rw [← e1]; unfold last.sl.r; rfl
  have r1 : last.sl.r_1 c M2 f2 = k0_pay26 X2 := by rw [← e2]; unfold last.sl.r_1; rfl
  have r2 : last.sl.r_2 c M1 M2 f1 f2 = k0_pay28 X1 X2 := by rw [← e1, ← e2]; unfold last.sl.r_2; rfl
  have r3 : last.sl.r_3 c i M2 f2 = k0_pay29 i X2 := by rw [← e2]; unfold last.sl.r_3; rfl
  have r4 : last.sl.cst_15 = Scalar.ofBits (F := F) .f32 0x00000000#32 := by unfold last.sl.cst_15; rfl
  have hF : last.sl.v63 i = 1#1 ↔ (i 0).val = 0 := first_iff i
  have hL : last.sl.v66 i = 1#1 ↔ ¬ (i 0).val = 0 := later_iff i
  have h0 : ¬ (i 0).val = 0 := fun h => absurd hi (not_last i h)
  have e70 : last.sl.v70 c i M2 g1 f2 = g1 := by
    unfold last.sl.v70
    simp only [hF, h0, dite_false]
    exact readAt_all (View.whole cc0_scratch1) g1 hz2 inb_S16x1_S16x1_0_0
  have e75 : last.sl.v75 c i M1 M2 g2 f1 f2 = g2 := by
    unfold last.sl.v75
    simp only [hF, h0, dite_false]
    exact readAt_all (View.whole cc0_scratch2) g2 hz2 inb_S16x1_S16x1_0_0
  have e80 : last.sl.v80 c i M1 M2 g3 f1 f2 = g3 := by
    unfold last.sl.v80
    simp only [hF, h0, dite_false]
    exact readAt_all (View.whole cc0_scratch3) g3 hz2 inb_S16x1_S16x1_0_0
  have eN : last.sl.v71 c i M2 g1 f2 = nposN i X1 X2 g1 := by
    unfold last.sl.v71
    simp only [hF, hL, h0, not_false_eq_true, dite_true, dite_false, nposN, posN, hubN, if_false, r0, r1, r2, r3, r4, e70, e75, e80]
    exact (readAt_all (View.whole cc0_scratch1) _ hz2 inb_S16x1_S16x1_0_0).trans
      (read_writes_all (View.whole cc0_scratch1) g1 hz2 inb_S16x1_S16x1_0_0 (k0_pay7 (k0_pay29 i X2) (Scalar.ofBits .f32 0x00000000#32) (k0_pay31 (F := F)) g1) [])
  have eP : last.sl.v103 c i M1 M2 g2 f1 f2 = posN i X1 X2 g2 := by
    unfold last.sl.v103
    simp only [hF, hL, h0, not_false_eq_true, dite_true, dite_false, nposN, posN, hubN, if_false, r0, r1, r2, r3, r4, e70, e75, e80]
    exact (readAt_all (View.whole cc0_scratch2) _ hz2 inb_S16x1_S16x1_0_0).trans
      (read_writes_all (View.whole cc0_scratch2) g2 hz2 inb_S16x1_S16x1_0_0 (k0_pay8 (k0_pay28 X1 X2) (k0_pay29 i X2) g2) [])
  have eH : last.sl.v108 c i M1 M2 g3 f1 f2 = hubN i X1 X2 g3 := by
    unfold last.sl.v108
    simp only [hF, hL, h0, not_false_eq_true, dite_true, dite_false, nposN, posN, hubN, if_false, r0, r1, r2, r3, r4, e70, e75, e80]
    exact (readAt_all (View.whole cc0_scratch3) _ hz2 inb_S16x1_S16x1_0_0).trans
      (read_writes_all (View.whole cc0_scratch3) g3 hz2 inb_S16x1_S16x1_0_0 (k0_pay9 (k0_pay25 X1) (k0_pay26 X2) (k0_pay29 i X2) g3) [])
  have eG : (Memref.whole cc0_scratch0).view.writes (Elt F) g0 (last.sl.G0_1 c i M1 M2 f1 f2) = entN i X1 X2 g0 := by
    rw [← e1, ← e2]; unfold last.sl.G0_1; rfl
  have eE : (Memref.whole cc0_scratch0).view.readAt (Elt F) (Rect.unit ![0, 0] S16x9216.size inb_S16x9216_S16x9216_0_0).toLoadRect
      ((Memref.whole cc0_scratch0).view.writes (Elt F) g0 (last.sl.G0_1 c i M1 M2 f1 f2)) = entN i X1 X2 g0 := by
    rw [eG]
    exact readAt_ent _
  unfold last.sl.H3_1 last.sl.H4_1 last.sl.H5_1 last.sl.r_5 last.sl.r_6 last.sl.r_7 last.sl.r_4
  simp only [eE, eN, eP, eH]
  iapply Hk
  isplitl [H1]
  · iexists f1
    isplitr
    · ipureintro; exact hf1
    iexact H1
  isplitl [H2]
  · iexists f2
    isplitr
    · ipureintro; exact hf2
    iexact H2
  isplitl [H3]
  · iapply owns_stored c M3 (outAll (entN i X1 X2 g0) (nposN i X1 X2 g1) (posN i X1 X2 g2) (hubN i X1 X2 g3))
    iexact H3
  isplitl [H4]
  · iapply owns_stored c M4 (outConf (entN i X1 X2 g0) (nposN i X1 X2 g1) (posN i X1 X2 g2))
    iexact H4
  isplitl [H5]
  · iapply owns_stored c M5 (outLoc (nposN i X1 X2 g1) (hubN i X1 X2 g3))
    iexact H5
  isplitl [G0]; · iexists _; iexact G0
  isplitl [G1]; · iexists _; iexact G1
  isplitl [G2]; · iexists _; iexact G2
  iexists _; iexact G3

end Cert.KernelIdeal.Body
end
-- ==== Proof.Cells.lean ====
/-
  What both programs compute for one anchor and for one row, over the extended reals: whether the anchor is a
  positive, its entropy, its box error, and the row totals a block of 1024 anchors adds to.
-/
module

public import Idealize.ShloMosaic.Lib.Pointwise
public import Idealize.ShloMosaic.Lib.IdealHost

@[expose] public section

noncomputable section

namespace Cert.Cells

open Idealize.ShloMosaic

/-- The arrays both programs are given. -/
abbrev Arr : Type := FVec Ideal ⟨3, ![16, 8732, 85]⟩ .f32

/-- The constant one half. -/
def half : EReal := ((1 / 2 : ℝ) : EReal)

theorem ofBits_half : Ideal.ofBits .f32 1056964608#32 = half := by
  simp [half, Ideal.ofBits, Ideal.ieee]
  norm_cast
  norm_num

/-- The kernel's lower clip. -/
def eps : EReal := Ideal.ofBits .f32 869711765#32

/-- Anchor `n` of row `r` is a positive. -/
def Pos (g : Arr) (r : Fin 16) (n : Fin 8732) : Prop := g (ix3 r n (0 : Fin 85)) < half

open Classical in
instance (g : Arr) (r : Fin 16) (n : Fin 8732) : Decidable (Pos g r n) := Classical.propDecidable _

/-- The entropy of an anchor, as the kernel forms it. -/
def ent (p g : Arr) (r : Fin 16) (n : Fin 8732) : EReal :=
  0 - ∑ x : Fin 81, Ideal.log (max (if half < g (ix3 r n (⟨x.val, by omega⟩ : Fin 85)) then p (ix3 r n (⟨x.val, by omega⟩ : Fin 85))
    else 1 - p (ix3 r n (⟨x.val, by omega⟩ : Fin 85))) eps)

/-- The difference of box coordinate `x` of an anchor. -/
def dif (p g : Arr) (r : Fin 16) (n : Fin 8732) (x : Fin 4) : EReal :=
  p (ix3 r n (⟨81 + x.val, by omega⟩ : Fin 85)) - g (ix3 r n (⟨81 + x.val, by omega⟩ : Fin 85))

/-- The box error of an anchor, as the kernel forms it. -/
def hub (p g : Arr) (r : Fin 16) (n : Fin 8732) : EReal :=
  ∑ x : Fin 4, max (half * dif p g r n x * dif p g r n x) (FloatOps.absf (F := Ideal) (φ := .f32) (dif p g r n x) - half)

/-- The term column `n` adds to its row's total of `f` over the positives: nothing past the last anchor. -/
def cell (g : Arr) (f : Fin 16 → Fin 8732 → EReal) (r : Fin 16) (n : ℕ) : EReal :=
  if h : n < 8732 then (if Pos g r ⟨n, h⟩ then f r ⟨n, h⟩ else 0) else 0

/-- The row's total after `t` blocks of 1024 columns. -/
def acc (g : Arr) (f : Fin 16 → Fin 8732 → EReal) (t : ℕ) (r : Fin 16) : EReal :=
  ∑ n ∈ Finset.range (1024 * t), cell g f r n

theorem acc_zero (g : Arr) (f : Fin 16 → Fin 8732 → EReal) (r : Fin 16) : acc g f 0 r = 0 := by simp [acc]

theorem acc_succ (g : Arr) (f : Fin 16 → Fin 8732 → EReal) (t : ℕ) (r : Fin 16) :
    acc g f (t + 1) r = acc g f t r + ∑ x : Fin 1024, cell g f r (1024 * t + x.val) := by
  unfold acc
  rw [show 1024 * (t + 1) = 1024 * t + 1024 by ring, Finset.sum_range_add, Finset.sum_range (n := 1024)]

/-- A sum of terms that vanish past the last anchor is the sum over the anchors. -/
theorem sum_pad {M : Type} [AddCommMonoid M] (f : ℕ → M) (hf : ∀ n, 8732 ≤ n → f n = 0) :
    ∑ n ∈ Finset.range 9216, f n = ∑ n : Fin 8732, f n.val := by
  rw [show 9216 = 8732 + 484 from rfl, Finset.sum_range_add, Finset.sum_range (n := 8732)]
  rw [Finset.sum_eq_zero (s := Finset.range 484) (fun n _ => hf _ (by omega)), add_zero]

/-- The row's total after all the blocks. -/
theorem acc_all (g : Arr) (f : Fin 16 → Fin 8732 → EReal) (r : Fin 16) :
    acc g f 9 r = ∑ n : Fin 8732, if Pos g r n then f r n else 0 := by
  unfold acc
  rw [show 1024 * 9 = 9216 from rfl, sum_pad _ (fun n hn => by unfold cell; rw [dif_neg (by omega)])]
  exact Finset.sum_congr rfl fun n _ => by unfold cell; rw [dif_pos n.isLt]

/-- The entropy the kernel keeps at column `n` for the mining: nothing at a positive or past the last anchor. -/
def kept (p g : Arr) (r : Fin 16) (n : ℕ) : EReal :=
  if h : n < 8732 then (if Pos g r ⟨n, h⟩ then 0 else ent p g r ⟨n, h⟩) else 0

end Cert.Cells

end
-- ==== Proof.Blocks.lean ====
/-
  What the kernel's body computes from a block of columns, in terms of the whole arrays.
-/
module

public import proofs.«01_k».proof.Proof.Body
public import proofs.«01_k».proof.Proof.Cells

@[expose] public section

set_option maxRecDepth 16384

noncomputable section

namespace Cert.KernelIdeal.Blocks

open Cert.KernelIdeal Cert.KernelIdeal.Gen Cert.KernelIdeal.Body Cert.Cells
open Idealize.ShloMosaic Idealize.ShloMosaic.TcCoe

/-- Block `X` holds the columns of array `p` that grid point `i` reads, wherever they lie in the array. -/
def Holds (i : grid0.Coords) (X : Vec Ideal S85x16x1024 .f32) (p : Arr) : Prop :=
  ∀ (a : Fin 85) (r : Fin 16) (j : Fin 1024) (h : 1024 * (i 0).val + j.val < 8732), X (ix3 a r j) = p (ix3 r ⟨1024 * (i 0).val + j.val, h⟩ a)

/-- The mask of the columns inside the array, as a word. -/
theorem valid_word (i : grid0.Coords) (j : Fin 1024) :
    IntOp.cmpi .slt (IntOp.addi (BitVec.ofNat 32 j.val) (Scalar.muli (BitVec.ofNat 32 (i 0).val) 1024#32)) 8732#32
      = BitVec.ofBool (decide (1024 * (i 0).val + j.val < 8732)) := by
  have hi : (i 0).val < 9 := (i 0).isLt
  have e : IntOp.addi (BitVec.ofNat 32 j.val) (Scalar.muli (BitVec.ofNat 32 (i 0).val) 1024#32) = BitVec.ofNat 32 (1024 * (i 0).val + j.val) := by
    apply BitVec.eq_of_toNat_eq
    simp [IntOp.addi, Scalar.muli, IntOp.muli]
    omega
  rw [e]
  simp only [IntOp.cmpi]
  congr 1
  rw [BitVec.slt_eq_decide]
  congr 1
  rw [BitVec.toInt_eq_toNat_of_lt (by simp; omega), BitVec.toInt_eq_toNat_of_lt (by simp)]
  simp
  omega

/-- The entropies of a block are the array's. -/
theorem pay28_at (i : grid0.Coords) (X Y : Vec Ideal S85x16x1024 .f32) (p g : Arr) (hX : Holds i X p) (hY : Holds i Y g)
    (r : Fin 16) (j : Fin 1024) (h : 1024 * (i 0).val + j.val < 8732) :
    k0_pay28 X Y (ix2 r j) = ent p g r ⟨1024 * (i 0).val + j.val, h⟩ := by
  unfold ent
  have : k0_pay28 X Y (ix2 r j) = 0 - ∑ x : Fin 81, Ideal.log (max (if half < Y (ix3 (⟨x.val, by omega⟩ : Fin 85) r j) then X (ix3 (⟨x.val, by omega⟩ : Fin 85) r j)
      else 1 - X (ix3 (⟨x.val, by omega⟩ : Fin 85) r j)) eps) := by
    pointwise [k0_pay28, k0_pay25, k0_pay26, ofBits_half]
    rfl
  rw [this]
  congr 1
  refine Finset.sum_congr rfl fun x _ => ?_
  rw [hX _ r j h, hY _ r j h]

open Classical in
/-- The positives' mask of a block. -/
theorem pay29_at (i : grid0.Coords) (Y : Vec Ideal S85x16x1024 .f32) (g : Arr) (hY : Holds i Y g) (r : Fin 16) (j : Fin 1024) :
    k0_pay29 i Y (ix2 r j) = BitVec.ofBool (decide (∃ h : 1024 * (i 0).val + j.val < 8732, Pos g r ⟨1024 * (i 0).val + j.val, h⟩)) := by
  have : k0_pay29 i Y (ix2 r j) = IntOp.andi (BitVec.ofBool (decide (Y (ix3 (0 : Fin 85) r j) < half)))
      (IntOp.cmpi .slt (IntOp.addi (BitVec.ofNat 32 j.val) (Scalar.muli (BitVec.ofNat 32 (i 0).val) 1024#32)) 8732#32) := by
    pointwise [k0_pay29, k0_pay27, k0_pay26, ofBits_half]
  rw [this, valid_word]
  by_cases h : 1024 * (i 0).val + j.val < 8732
  · rw [hY _ r j h]
    simp only [h, decide_true, Pos, exists_true_left]
    by_cases h2 : g (ix3 r ⟨1024 * (i 0).val + j.val, h⟩ 0) < half <;> simp [h2, IntOp.andi]
  · simp [h, IntOp.andi]

/-- What a block's store leaves at a column for the mining. -/
theorem pay30_at (i : grid0.Coords) (X Y : Vec Ideal S85x16x1024 .f32) (p g : Arr) (hX : Holds i X p) (hY : Holds i Y g)
    (r : Fin 16) (j : Fin 1024) : k0_pay30 i X Y (ix2 r j) = kept p g r (1024 * (i 0).val + j.val) := by
  have : k0_pay30 i X Y (ix2 r j) = Scalar.select (IntOp.ori (k0_pay29 i Y (ix2 r j)) (IntOp.xori
      (IntOp.cmpi .slt (IntOp.addi (BitVec.ofNat 32 j.val) (Scalar.muli (BitVec.ofNat 32 (i 0).val) 1024#32)) 8732#32) 1#1)) 0 (k0_pay28 X Y (ix2 r j)) := by
    pointwise [k0_pay30, k0_pay27]
  rw [this, valid_word, pay29_at i Y g hY]
  unfold kept
  by_cases h : 1024 * (i 0).val + j.val < 8732
  · rw [dif_pos h]
    by_cases h2 : Pos g r ⟨1024 * (i 0).val + j.val, h⟩
    · simp [h, h2, IntOp.ori, IntOp.xori, Scalar.select]
    · simp only [h, h2, pay28_at i X Y p g hX hY r j h]
      simp [IntOp.ori, IntOp.xori, Scalar.select]
  · rw [dif_neg h]
    simp [h, IntOp.ori, IntOp.xori, Scalar.select]

/-- The block's row total over the positives, of any per-column values. -/
theorem sum_at (i : grid0.Coords) (Y : Vec Ideal S85x16x1024 .f32) (g : Arr) (hY : Holds i Y g) (f : Fin 16 → Fin 8732 → EReal) (r : Fin 16)
    (v : Fin 1024 → EReal) (hv : ∀ (j : Fin 1024) (h : 1024 * (i 0).val + j.val < 8732), v j = f r ⟨1024 * (i 0).val + j.val, h⟩) :
    ∑ x : Fin 1024, Scalar.select (k0_pay29 i Y (ix2 r x)) (v x) 0 = ∑ x : Fin 1024, cell g f r (1024 * (i 0).val + x.val) := by
  refine Finset.sum_congr rfl fun x _ => ?_
  rw [pay29_at i Y g hY]
  unfold cell
  by_cases h : 1024 * (i 0).val + x.val < 8732
  · rw [dif_pos h, hv x h]
    by_cases h2 : Pos g r ⟨1024 * (i 0).val + x.val, h⟩ <;> simp [h, h2, Scalar.select]
  · rw [dif_neg h]
    simp [h, Scalar.select]

/-- The positives counted so far, after the body at a point. -/
theorem npos_at (i : grid0.Coords) (X Y : Vec Ideal S85x16x1024 .f32) (g : Arr) (hY : Holds i Y g) (a : Vec Ideal S16x1 .f32)
    (ha : (i 0).val ≠ 0 → ∀ r : Fin 16, a (ix2 r (0 : Fin 1)) = acc g (fun _ _ => 1) (i 0).val r) (r : Fin 16) :
    nposN i X Y a (ix2 r (0 : Fin 1)) = acc g (fun _ _ => 1) ((i 0).val + 1) r := by
  have e := sum_at i Y g hY (fun _ _ => 1) r (fun _ => 1) (fun _ _ => rfl)
  rw [acc_succ, ← e]
  unfold nposN
  split
  · next h =>
    rw [h, acc_zero, zero_add]
    pointwise [k0_pay4, k0_pay1, k0_pay31]
  · next h =>
    rw [← ha h]
    pointwise [k0_pay7, k0_pay1, k0_pay31]

/-- The positives' entropies summed so far, after the body at a point. -/
theorem pos_at (i : grid0.Coords) (X Y : Vec Ideal S85x16x1024 .f32) (p g : Arr) (hX : Holds i X p) (hY : Holds i Y g) (a : Vec Ideal S16x1 .f32)
    (ha : (i 0).val ≠ 0 → ∀ r : Fin 16, a (ix2 r (0 : Fin 1)) = acc g (ent p g) (i 0).val r) (r : Fin 16) :
    posN i X Y a (ix2 r (0 : Fin 1)) = acc g (ent p g) ((i 0).val + 1) r := by
  have e := sum_at i Y g hY (ent p g) r (fun j => k0_pay28 X Y (ix2 r j)) (fun j h => pay28_at i X Y p g hX hY r j h)
  rw [acc_succ, ← e]
  unfold posN
  split
  · next h =>
    rw [h, acc_zero, zero_add]
    pointwise [k0_pay5, k0_pay2]
  · next h =>
    rw [← ha h]
    pointwise [k0_pay8, k0_pay2]

/-- The positives' box errors summed so far, after the body at a point. -/
theorem hub_at (i : grid0.Coords) (X Y : Vec Ideal S85x16x1024 .f32) (p g : Arr) (hX : Holds i X p) (hY : Holds i Y g) (a : Vec Ideal S16x1 .f32)
    (ha : (i 0).val ≠ 0 → ∀ r : Fin 16, a (ix2 r (0 : Fin 1)) = acc g (hub p g) (i 0).val r) (r : Fin 16) :
    hubN i X Y a (ix2 r (0 : Fin 1)) = acc g (hub p g) ((i 0).val + 1) r := by
  have e := sum_at i Y g hY (hub p g) r (fun j => ∑ x : Fin 4, max (half * (X (ix3 (⟨81 + x.val, by omega⟩ : Fin 85) r j) - Y (ix3 (⟨81 + x.val, by omega⟩ : Fin 85) r j))
      * (X (ix3 (⟨81 + x.val, by omega⟩ : Fin 85) r j) - Y (ix3 (⟨81 + x.val, by omega⟩ : Fin 85) r j)))
      (FloatOps.absf (F := Ideal) (φ := .f32) (X (ix3 (⟨81 + x.val, by omega⟩ : Fin 85) r j) - Y (ix3 (⟨81 + x.val, by omega⟩ : Fin 85) r j)) - half))
    (fun j h => by
      unfold hub dif
      refine Finset.sum_congr rfl fun x _ => ?_
      rw [hX _ r j h, hY _ r j h])
  rw [acc_succ, ← e]
  unfold hubN
  split
  · next h =>
    rw [h, acc_zero, zero_add]
    pointwise [k0_pay6, k0_pay3, k0_pay25, k0_pay26, ofBits_half]
  · next h =>
    rw [← ha h]
    pointwise [k0_pay9, k0_pay3, k0_pay25, k0_pay26, ofBits_half]

end Cert.KernelIdeal.Blocks

end
-- ==== Proof.Fetch.lean ====
/-
  What the two input windows' staging buffers hold at a grid point: the arguments' columns, wherever the block lies
  inside the array.
-/
module

public import proofs.«01_k».proof.Proof.Blocks
public import Idealize.ShloMosaic.Lib.WritesUnit

@[expose] public section

set_option maxRecDepth 16384

noncomputable section

namespace Cert.KernelIdeal.Fetch

open Cert.KernelIdeal Cert.KernelIdeal.Gen Cert.KernelIdeal.Blocks Cert.Cells
open Idealize.ShloMosaic Idealize.ShloMosaic.TcCoe Idealize.ShloMosaic.Tactic

variable (m : (ℓ : Loc nD τ sig) → Buf (Elt Ideal) ℓ)

/-- The two arguments' contents on core `c`. -/
abbrev argP (c : Dev nD) : Arr := m ((c : Thread nD τ).loc main_arg0)
abbrev argG (c : Dev nD) : Arr := m ((c : Thread nD τ).loc main_arg1)

/-- The host's transposes ahead of the region. -/
theorem V_0 (c : Dev nD) (a : Fin 85) (r : Fin 16) (n : Fin 8732) :
    (V m c main_call0_v0 : FVec Ideal S85x16x8732 .f32) (ix3 a r n) = argP m c (ix3 r n a) := by
  have e : V m c main_call0_v0 = transpose S85x16x8732 [2, 0, 1] (m ((c : Thread nD τ).loc main_arg0)) transposes_S16x8732x85_S85x16x8732_2_0_1 := by
    show StableHlo.after hostOps0 (fun b => m (c, b)) (Proc.devRef .tc main_call0_v0) = _
    simp only [hostOps0, StableHlo.TRef.unary, StableHlo.TRef.toBuf, StableHlo.TRef.ofBuf, cast_eq]
    after_results
  rw [e]
  pointwise
theorem V_1 (c : Dev nD) (a : Fin 85) (r : Fin 16) (n : Fin 8732) :
    (V m c main_call0_v1 : FVec Ideal S85x16x8732 .f32) (ix3 a r n) = argG m c (ix3 r n a) := by
  have e : V m c main_call0_v1 = transpose S85x16x8732 [2, 0, 1] (m ((c : Thread nD τ).loc main_arg1)) transposes_S16x8732x85_S85x16x8732_2_0_1 := by
    show StableHlo.after hostOps0 (fun b => m (c, b)) (Proc.devRef .tc main_call0_v1) = _
    simp only [hostOps0, StableHlo.TRef.unary, StableHlo.TRef.toBuf, StableHlo.TRef.ofBuf, cast_eq]
    after_results
  rw [e]
  pointwise

/-- How much of a block lies in the array. -/
theorem ext_0 : ∀ t : Fin grid0.N, win0_0.xsize (grid0.coords t) 0 = 85 ∧ win0_0.xsize (grid0.coords t) 1 = 16
    ∧ win0_0.xsize (grid0.coords t) 2 = min 1024 (8732 - 1024 * t.val) := by decide +kernel
theorem ext_1 : ∀ t : Fin grid0.N, win0_1.xsize (grid0.coords t) 0 = 85 ∧ win0_1.xsize (grid0.coords t) 1 = 16
    ∧ win0_1.xsize (grid0.coords t) 2 = min 1024 (8732 - 1024 * t.val) := by decide +kernel
theorem idx_0 : ∀ t : Fin grid0.N, win0_0.index t 0 = 0 ∧ win0_0.index t 1 = 0 ∧ win0_0.index t 2 = t.val := by decide +kernel
theorem idx_1 : ∀ t : Fin grid0.N, win0_1.index t 0 = 0 ∧ win0_1.index t 1 = 0 ∧ win0_1.index t 2 = t.val := by decide +kernel
theorem coord : ∀ t : Fin grid0.N, (grid0.coords t 0).val = t.val := by decide +kernel

/-- The first window's buffer holds the predictions' columns. -/
theorem holds_0 (c : Dev nD) (t : Fin grid0.N) (d : Vec Ideal S85x16x1024 .f32) :
    Holds (grid0.coords t) (win0_0.fill (grid0.coords t) d (iblk m c 0 t)) (argP m c) := by
  intro a r j h
  have hm : win0_0.moved (grid0.coords t) (ix3 a r j) = true := by
    rw [win0_0.moved_iff]
    rw [coord t] at h
    obtain ⟨e0, e1, e2⟩ := ext_0 t
    intro x
    match x with
    | ⟨0, _⟩ => exact lt_of_lt_of_eq a.isLt e0.symm
    | ⟨1, _⟩ => exact lt_of_lt_of_eq r.isLt e1.symm
    | ⟨2, _⟩ => exact lt_of_lt_of_eq (b := min 1024 (8732 - 1024 * t.val)) (lt_min j.isLt (by show j.val < _; omega)) e2.symm
  unfold Pipeline.Window.fill
  rw [dif_pos hm]
  unfold iblk
  rw [View.read_apply]
  rw [← V_0]
  show V m c main_call0_v0 _ = V m c main_call0_v0 _
  obtain ⟨i0, i1, i2⟩ := idx_0 t
  congr 1
  funext x
  apply Fin.ext
  match x with
  | ⟨0, _⟩ => show win0_0.index t 0 * 85 + 1 * a.val = a.val; rw [i0]; omega
  | ⟨1, _⟩ => show win0_0.index t 1 * 16 + 1 * r.val = r.val; rw [i1]; omega
  | ⟨2, _⟩ => show win0_0.index t 2 * 1024 + 1 * j.val = 1024 * (grid0.coords t 0).val + j.val; rw [i2, coord t]; omega

/-- The second window's buffer holds the targets' columns. -/
theorem holds_1 (c : Dev nD) (t : Fin grid0.N) (d : Vec Ideal S85x16x1024 .f32) :
    Holds (grid0.coords t) (win0_1.fill (grid0.coords t) d (iblk m c 1 t)) (argG m c) := by
  intro a r j h
  have hm : win0_1.moved (grid0.coords t) (ix3 a r j) = true := by
    rw [win0_1.moved_iff]
    rw [coord t] at h
    obtain ⟨e0, e1, e2⟩ := ext_1 t
    intro x
    match x with
    | ⟨0, _⟩ => exact lt_of_lt_of_eq a.isLt e0.symm
    | ⟨1, _⟩ => exact lt_of_lt_of_eq r.isLt e1.symm
    | ⟨2, _⟩ => exact lt_of_lt_of_eq (b := min 1024 (8732 - 1024 * t.val)) (lt_min j.isLt (by show j.val < _; omega)) e2.symm
  unfold Pipeline.Window.fill
  rw [dif_pos hm]
  unfold iblk
  rw [View.read_apply]
  rw [← V_1]
  show V m c main_call0_v1 _ = V m c main_call0_v1 _
  obtain ⟨i0, i1, i2⟩ := idx_1 t
  congr 1
  funext x
  apply Fin.ext
  match x with
  | ⟨0, _⟩ => show win0_1.index t 0 * 85 + 1 * a.val = a.val; rw [i0]; omega
  | ⟨1, _⟩ => show win0_1.index t 1 * 16 + 1 * r.val = r.val; rw [i1]; omega
  | ⟨2, _⟩ => show win0_1.index t 2 * 1024 + 1 * j.val = 1024 * (grid0.coords t 0).val + j.val; rw [i2, coord t]; omega

section
variable {sp : Space} (v : View sig .tc sp S16x9216 .f32) (f : v.ty.Contents (Elt Ideal)) (i : grid0.Coords) (w : Vec Ideal S16x1024 .f32)

theorem off_eq (i : grid0.Coords) : k0_off1 i = ![0, 1024 * (i 0).val] :=
  (by decide +kernel : ∀ i : grid0.Coords, k0_off1 i = ![0, 1024 * (i 0).val]) i

/-- A block's store leaves the columns before it as they were, -/
theorem store_before (r : Fin 16) (n : Fin 9216) (h : n.val < 1024 * (i 0).val) :
    v.read (Elt Ideal) (v.writes (Elt Ideal) f [⟨Rect.unit (s := S16x9216) (k0_off1 i) S16x1024.size (k0_off1_inb i), w⟩]) (ix2 r n) = v.read (Elt Ideal) f (ix2 r n) := by
  refine (View.read_writes_cons_unit_of_not_mem (off' := ![0, 1024 * (i 0).val]) v f (k0_off1_inb i) w [] (ix2 r n) (off_eq i) (1 : Fin 2) (Or.inl h)).trans ?_
  rfl

/-- and holds the block at its own. -/
theorem store_at (r : Fin 16) (n : Fin 9216) (j : Fin 1024) (h : n.val = 1024 * (i 0).val + j.val) :
    v.read (Elt Ideal) (v.writes (Elt Ideal) f [⟨Rect.unit (s := S16x9216) (k0_off1 i) S16x1024.size (k0_off1_inb i), w⟩]) (ix2 r n) = w (ix2 r j) :=
  View.read_writes_cons_unit_of_mem (off' := ![0, 1024 * (i 0).val]) v f (k0_off1_inb i) w [] (ix2 r n) (ix2 r j) (off_eq i) (fun x => by
    match x with
    | ⟨0, _⟩ => show r.val = 0 + r.val; omega
    | ⟨1, _⟩ => exact h)
end

/-- The scratch read whole is its contents. -/
theorem read_whole (W : Vec Ideal S16x9216 .f32) (y : S16x9216.Idx) :
    W y = (Memref.whole cc0_scratch0 : Memref sig .tc _ _ _).view.read (Elt Ideal) W y := by
  rw [View.read_apply]; rfl

/-- The entropies' scratch after the body at a point: the block's own columns stored, the others as they were. -/
theorem ent_at (i : grid0.Coords) (X Y : Vec Ideal S85x16x1024 .f32) (p g : Arr) (hX : Holds i X p) (hY : Holds i Y g)
    (a : Vec Ideal S16x9216 .f32) (ha : ∀ (r : Fin 16) (n : Fin 9216), n.val < 1024 * (i 0).val → a (ix2 r n) = kept p g r n.val)
    (r : Fin 16) (n : Fin 9216) (hn : n.val < 1024 * ((i 0).val + 1)) : Body.entN i X Y a (ix2 r n) = kept p g r n.val := by
  rw [read_whole (Body.entN i X Y a)]
  unfold Body.entN
  by_cases h : n.val < 1024 * (i 0).val
  · rw [← ha r n h, read_whole a]
    exact store_before (Memref.whole cc0_scratch0 : Memref sig .tc _ _ _).view a i (k0_pay30 i X Y) r n h
  · obtain ⟨j, hj⟩ : ∃ j : Fin 1024, n.val = 1024 * (i 0).val + j.val := ⟨⟨n.val - 1024 * (i 0).val, by omega⟩, by simp only; omega⟩
    rw [hj, ← pay30_at i X Y p g hX hY]
    exact store_at (Memref.whole cc0_scratch0 : Memref sig .tc _ _ _).view a i (k0_pay30 i X Y) r n j hj

end Cert.KernelIdeal.Fetch

end
-- ==== Proof.Run.lean ====
/-
  The idealized kernel's run: the three results as the last point's formulas of the whole arrays' row totals and kept
  entropies. The scratch's contents are followed from block to block.
-/
module

public import proofs.«01_k».proof.Proof.Fetch
public import Idealize.ShloMosaic.Lib.Pipeline.KitQuiescent

@[expose] public section

set_option maxRecDepth 16384

noncomputable section

namespace Cert.KernelIdeal.Run

open Cert.KernelIdeal Cert.KernelIdeal.Gen Cert.KernelIdeal.Body Cert.KernelIdeal.Blocks Cert.KernelIdeal.Fetch Cert.Cells

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The scratch after the last block: the kept entropies and the three row totals. -/
def entF (c : Dev nD) : Vec Ideal S16x9216 .f32 := fun y => kept (argP m c) (argG m c) (y 0) (y 1).val
def rowF (c : Dev nD) (f : Fin 16 → Fin 8732 → EReal) : Vec Ideal S16x1 .f32 := fun y => acc (argG m c) f 9 (y 0)

/-- The three results. -/
def resAll (c : Dev nD) : Vec Ideal S1x1 .f32 :=
  outAll (entF m c) (rowF m c fun _ _ => 1) (rowF m c (ent (argP m c) (argG m c))) (rowF m c (hub (argP m c) (argG m c)))
def resConf (c : Dev nD) : Vec Ideal S1x1 .f32 :=
  outConf (entF m c) (rowF m c fun _ _ => 1) (rowF m c (ent (argP m c) (argG m c)))
def resLoc (c : Dev nD) : Vec Ideal S1x1 .f32 :=
  outLoc (rowF m c fun _ _ => 1) (rowF m c (hub (argP m c) (argG m c)))

/-- What the scratch holds before block `t`. -/
def Inv (c : Dev nD) (t : ℕ) (g0 : Vec Ideal S16x9216 .f32) (g1 g2 g3 : Vec Ideal S16x1 .f32) : Prop :=
  t ≤ 8 → (∀ (r : Fin 16) (n : Fin 9216), n.val < 1024 * t → g0 (ix2 r n) = kept (argP m c) (argG m c) r n.val)
    ∧ (t ≠ 0 → ∀ r : Fin 16, g1 (ix2 r (0 : Fin 1)) = acc (argG m c) (fun _ _ => 1) t r)
    ∧ (t ≠ 0 → ∀ r : Fin 16, g2 (ix2 r (0 : Fin 1)) = acc (argG m c) (ent (argP m c) (argG m c)) t r)
    ∧ (t ≠ 0 → ∀ r : Fin 16, g3 (ix2 r (0 : Fin 1)) = acc (argG m c) (hub (argP m c) (argG m c)) t r)

/-- What the scratch holds after the body at `t`. -/
theorem step (c : Dev nD) (t : Fin grid0.N) (X Y : Vec Ideal S85x16x1024 .f32) (hX : Holds (grid0.coords t) X (argP m c)) (hY : Holds (grid0.coords t) Y (argG m c))
    (g0 : Vec Ideal S16x9216 .f32) (g1 g2 g3 : Vec Ideal S16x1 .f32) (h : Inv m c t.val g0 g1 g2 g3) :
    (∀ (r : Fin 16) (n : Fin 9216), n.val < 1024 * (t.val + 1) → entN (grid0.coords t) X Y g0 (ix2 r n) = kept (argP m c) (argG m c) r n.val)
    ∧ (∀ r : Fin 16, nposN (grid0.coords t) X Y g1 (ix2 r (0 : Fin 1)) = acc (argG m c) (fun _ _ => 1) (t.val + 1) r)
    ∧ (∀ r : Fin 16, posN (grid0.coords t) X Y g2 (ix2 r (0 : Fin 1)) = acc (argG m c) (ent (argP m c) (argG m c)) (t.val + 1) r)
    ∧ (∀ r : Fin 16, hubN (grid0.coords t) X Y g3 (ix2 r (0 : Fin 1)) = acc (argG m c) (hub (argP m c) (argG m c)) (t.val + 1) r) := by
  have hN : t.val < 9 := lt_of_lt_of_eq t.isLt N_0
  obtain ⟨h0, h1, h2, h3⟩ := h (by omega)
  rw [← coord t] at h0 h1 h2 h3 ⊢
  exact ⟨fun r n => ent_at (grid0.coords t) X Y _ _ hX hY g0 h0 r n, fun r => npos_at (grid0.coords t) X Y _ hY g1 h1 r,
    fun r => pos_at (grid0.coords t) X Y _ _ hX hY g2 h2 r, fun r => hub_at (grid0.coords t) X Y _ _ hX hY g3 h3 r⟩

/-- After the last body the scratch is `entF`, `rowF`. -/
theorem final (c : Dev nD) (t : Fin grid0.N) (ht : t.val = 8) (X Y : Vec Ideal S85x16x1024 .f32) (hX : Holds (grid0.coords t) X (argP m c)) (hY : Holds (grid0.coords t) Y (argG m c))
    (g0 : Vec Ideal S16x9216 .f32) (g1 g2 g3 : Vec Ideal S16x1 .f32) (h : Inv m c t.val g0 g1 g2 g3) :
    entN (grid0.coords t) X Y g0 = entF m c ∧ nposN (grid0.coords t) X Y g1 = rowF m c (fun _ _ => 1)
    ∧ posN (grid0.coords t) X Y g2 = rowF m c (ent (argP m c) (argG m c)) ∧ hubN (grid0.coords t) X Y g3 = rowF m c (hub (argP m c) (argG m c)) := by
  obtain ⟨h0, h1, h2, h3⟩ := step m c t X Y hX hY g0 g1 g2 g3 h
  rw [ht] at h0 h1 h2 h3
  refine ⟨?_, ?_, ?_, ?_⟩
  · funext y
    idx_vars y
    exact h0 _ _ (lt_of_lt_of_eq (Fin.isLt _) (by norm_num))
  all_goals
    funext y
    rw [show y = ix2 (y 0) (0 : Fin 1) from by
      rw [eq_ix2 y]
      exact congrArg (ix2 (n0 := 16) (n1 := 1) (y 0)) (Subsingleton.elim (α := Fin 1) _ _)]
  · exact h1 _
  · exact h2 _
  · exact h3 _

/-- What is carried from point to point: the scratch as `Inv` has it. -/
def Φ (c : Dev nD) (t : ℕ) : sProp 𝕄 :=
  iprop((∃ (g0 : Bf (F := Ideal) c (Memref.whole cc0_scratch0)) (g1 : Bf (F := Ideal) c (Memref.whole cc0_scratch1))
      (g2 : Bf (F := Ideal) c (Memref.whole cc0_scratch2)) (g3 : Bf (F := Ideal) c (Memref.whole cc0_scratch3)), ⌜Inv m c t g0 g1 g2 g3⌝
    ∗ pt c (Memref.whole cc0_scratch0) g0 ∗ pt c (Memref.whole cc0_scratch1) g1
    ∗ pt c (Memref.whole cc0_scratch2) g2 ∗ pt c (Memref.whole cc0_scratch3) g3) ∗ ∃ r, prngReg c r)

/-- The proof data: the inputs' blocks stay as fetched, the outputs end at the results, the scratch as `Φ` has it. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => resAll m c
    | ⟨3, _⟩ => resConf m c
    | ⟨4, _⟩ => resLoc m c
  Φ t := Φ m c t.val
  q _ := fullShare
  owed _ := 0

/-- The inputs' blocks as the body finds them. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl
theorem before_1 (c : Dev nD) (t : Fin cfg0.N) (d) :
    (dats m 0 c).before (1 : Fin 5) t d = win0_1.fill (grid0.coords t) d (iblk m c 1 t) := by
  unfold Dat.before; rw [if_pos (fetch0_1 t)]; rfl

theorem cond3 : ∀ t : Fin grid0.N, k0_cond3 (grid0.coords t) = 1#1 ↔ t.val = 8 := by decide +kernel

set_option maxHeartbeats 2000000 in
/-- What the body finds and leaves at a point. -/
theorem body_obligation (c : Dev nD) : BodyObligationLoose (dats m 0 c) (defs₀ (F := Ideal)) Variants.none () Set.univ := fun t => by
  have hN : t.val < 9 := lt_of_lt_of_eq t.isLt N_0
  rw [bigSep_W0, bigSep_W0]
  rw [show (dats m 0 c).Φ t.succ = Φ m c (t.val + 1) from rfl, show (dats m 0 c).Φ t.castSucc = Φ m c t.val from rfl,
    show (dats m 0 c).owesAt () t.succ = (dats m 0 c).owesAt () t.castSucc from rfl]
  unfold Φ
  have hx : win0_0.cut (grid0.coords t) ((dats m 0 c).after (0 : Fin 5) t) = iblk m c 0 t := win0_0.cut_fill _ _ _
  have hy : win0_1.cut (grid0.coords t) ((dats m 0 c).after (1 : Fin 5) t) = iblk m c 1 t := win0_1.cut_fill _ _ _
  by_cases hi : k0_cond3 (grid0.coords t) = 1#1
  · have ht : t.val = 8 := (cond3 t).mp hi
    have i2 : cfg0.idle 2 (cfg0.grid.coords t) = false := by
      show (!(k0_cond3 (grid0.coords t) == 1#1)) = false
      rw [hi]; rfl
    have i3 : cfg0.idle 3 (cfg0.grid.coords t) = false := i2
    have i4 : cfg0.idle 4 (cfg0.grid.coords t) = false := i2
    simp only [i2, i3, i4]
    change _ ⊢ wp frame (wpE (defs₀ (F := Ideal)) Variants.none c none) Set.univ (bodyAt0 t) _
    iintro ⟨⟨⟨%g0, %g1, %g2, %g3, %hI, G0, G1, G2, G3⟩, Hp⟩, Ho, ⟨%d0, H0⟩, ⟨%d1, H1⟩, ⟨%d2, H2⟩, ⟨%d3, H3⟩, ⟨%d4, H4⟩⟩
    rw [before_0 m c t d0, before_1 m c t d1]
    obtain ⟨e0, e1, e2, e3⟩ := final m c t ht _ _ (holds_0 m c t d0) (holds_1 m c t d1) g0 g1 g2 g3 hI
    iapply (Body.last (F := Ideal) c (grid0.coords t) hi (win0_0.stage (cfg0.slots t 0)) (win0_1.stage (cfg0.slots t 1)) (hstage0_0 ((cfg0.slots t 0).cast nbuf0_0)) (hstage0_1 ((cfg0.slots t 1).cast nbuf0_1))
      (win0_2.stage (cfg0.slots t 2)) (win0_3.stage (cfg0.slots t 3)) (win0_4.stage (cfg0.slots t 4)) (hstage0_2 ((cfg0.slots t 2).cast nbuf0_2)) (hstage0_3 ((cfg0.slots t 3).cast nbuf0_3)) (hstage0_4 ((cfg0.slots t 4).cast nbuf0_4))
      (win0_0.fill (grid0.coords t) d0 (iblk m c 0 t)) (win0_1.fill (grid0.coords t) d1 (iblk m c 1 t)) ((dats m 0 c).before (2 : Fin 5) t d2) ((dats m 0 c).before (3 : Fin 5) t d3) ((dats m 0 c).before (4 : Fin 5) t d4) g0 g1 g2 g3 _)
    rw [e0, e1, e2, e3]
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    isplitl [G3]; · iexact G3
    iintro ⟨H0, H1, H2, H3, H4, ⟨%k0, G0⟩, ⟨%k1, G1⟩, ⟨%k2, G2⟩, ⟨%k3, G3⟩⟩
    isplitl [G0 G1 G2 G3 Hp]
    · isplitr [Hp]
      · iexists k0, k1, k2, k3
        isplit
        · ipureintro; intro h8; exact absurd h8 (by omega)
        isplitl [G0]; · iexact G0
        isplitl [G1]; · iexact G1
        isplitl [G2]; · iexact G2
        iexact G3
      · iexact Hp
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after (0 : Fin 5) t)))
      rw [hx]; try iexact H0
    isplitl [H1]
    · iexists d1
      change _ ⊢ owns (c : Thread nD τ) (stage0_1 (cfg0.slots t 1)) fullShare (win0_1.fill (grid0.coords t) d1 (win0_1.cut (grid0.coords t) ((dats m 0 c).after (1 : Fin 5) t)))
      rw [hy]; try iexact H1
    have j2 : idle0 2 (grid0.coords t) = false := i2
    have j3 : idle0 3 (grid0.coords t) = false := i2
    have j4 : idle0 4 (grid0.coords t) = false := i2
    isplitl [H2]
    · simp only [j2]; iexact H2
    isplitl [H3]
    · simp only [j3]; iexact H3
    simp only [j4]; iexact H4
  · have ht : t.val ≠ 8 := fun h => hi ((cond3 t).mpr h)
    have i2 : cfg0.idle 2 (cfg0.grid.coords t) = true := by
      show (!(k0_cond3 (grid0.coords t) == 1#1)) = true
      simp [hi]
    have i3 : cfg0.idle 3 (cfg0.grid.coords t) = true := i2
    have i4 : cfg0.idle 4 (cfg0.grid.coords t) = true := i2
    have f2 : (cfg0.win 2).flush t = false := by rw [← Bool.not_eq_true, flush0_2 t]; omega
    have f3 : (cfg0.win 3).flush t = false := by rw [← Bool.not_eq_true, flush0_3 t]; omega
    have f4 : (cfg0.win 4).flush t = false := by rw [← Bool.not_eq_true, flush0_4 t]; omega
    simp only [i2, i3, i4, f2, f3, f4]
    change _ ⊢ wp frame (wpE (defs₀ (F := Ideal)) Variants.none c none) Set.univ (bodyAt0 t) _
    iintro ⟨⟨⟨%g0, %g1, %g2, %g3, %hI, G0, G1, G2, G3⟩, Hp⟩, Ho, ⟨%d0, H0⟩, ⟨%d1, H1⟩, H2, H3, H4⟩
    rw [before_0 m c t d0, before_1 m c t d1]
    obtain ⟨e0, e1, e2, e3⟩ := step m c t _ _ (holds_0 m c t d0) (holds_1 m c t d1) g0 g1 g2 g3 hI
    iapply (Body.middle (F := Ideal) c (grid0.coords t) hi (win0_0.stage (cfg0.slots t 0)) (win0_1.stage (cfg0.slots t 1)) (hstage0_0 ((cfg0.slots t 0).cast nbuf0_0)) (hstage0_1 ((cfg0.slots t 1).cast nbuf0_1))
      (win0_2.stage (cfg0.slots t 2)) (win0_3.stage (cfg0.slots t 3)) (win0_4.stage (cfg0.slots t 4)) (hstage0_2 ((cfg0.slots t 2).cast nbuf0_2)) (hstage0_3 ((cfg0.slots t 3).cast nbuf0_3)) (hstage0_4 ((cfg0.slots t 4).cast nbuf0_4))
      (win0_0.fill (grid0.coords t) d0 (iblk m c 0 t)) (win0_1.fill (grid0.coords t) d1 (iblk m c 1 t)) g0 g1 g2 g3 _)
    isplitl [H0]; · iexact H0
    isplitl [H1]; · iexact H1
    isplitl [G0]; · iexact G0
    isplitl [G1]; · iexact G1
    isplitl [G2]; · iexact G2
    isplitl [G3]; · iexact G3
    iintro ⟨H0, H1, G0, G1, G2, G3⟩
    isplitl [G0 G1 G2 G3 Hp]
    · isplitr [Hp]
      · iexists _, _, _, _
        isplit
        · ipureintro; exact fun _ => ⟨e0, fun _ => e1, fun _ => e2, fun _ => e3⟩
        isplitl [G0]; · iexact G0
        isplitl [G1]; · iexact G1
        isplitl [G2]; · iexact G2
        iexact G3
      · iexact Hp
    isplitl [Ho]; · iexact Ho
    isplitl [H0]
    · iexists d0
      change _ ⊢ owns (c : Thread nD τ) (stage0_0 (cfg0.slots t 0)) fullShare (win0_0.fill (grid0.coords t) d0 (win0_0.cut (grid0.coords t) ((dats m 0 c).after (0 : Fin 5) t)))
      rw [hx]; try iexact H0
    isplitl [H1]
    · iexists d1
      change _ ⊢ owns (c : Thread nD τ) (stage0_1 (cfg0.slots t 1)) fullShare (win0_1.fill (grid0.coords t) d1 (win0_1.cut (grid0.coords t) ((dats m 0 c).after (1 : Fin 5) t)))
      rw [hy]; try iexact H1
    have j2 : idle0 2 (grid0.coords t) = true := i2
    have j3 : idle0 3 (grid0.coords t) = true := i2
    have j4 : idle0 4 (grid0.coords t) = true := i2
    isplitl [H2]
    · simp only [j2]; iexact H2
    isplitl [H3]
    · simp only [j3]; iexact H3
    simp only [j4]; iexact H4

instance : Subsingleton S1x1.Idx := ⟨fun a b => by
  rw [eq_ix2 a, eq_ix2 b]
  congr 1 <;> exact Subsingleton.elim (α := Fin 1) _ _⟩

theorem one (X : Vec Ideal S1x1 .f32) (a b : S1x1.Idx) : X a = X b := congrArg X (Subsingleton.elim a b)

/-- The results' arrays after the region. -/
theorem arr_2 (c : Dev nD) : (dats m 0 c).arrAt 2 cfg0.N = resAll m c :=
  (dats m 0 c).arrAt_eq_of_covers 2 _ (by decide +kernel) fun t _ y => by
    rw [cast_eq]
    exact one (resAll m c) ((cfg0.win 2).xinj (cfg0.grid.coords t) y) (((cfg0.win 2).blk t).view.emb y)
theorem arr_3 (c : Dev nD) : (dats m 0 c).arrAt 3 cfg0.N = resConf m c :=
  (dats m 0 c).arrAt_eq_of_covers 3 _ (by decide +kernel) fun t _ y => by
    rw [cast_eq]
    exact one (resConf m c) ((cfg0.win 3).xinj (cfg0.grid.coords t) y) (((cfg0.win 3).blk t).view.emb y)
theorem arr_4 (c : Dev nD) : (dats m 0 c).arrAt 4 cfg0.N = resLoc m c :=
  (dats m 0 c).arrAt_eq_of_covers 4 _ (by decide +kernel) fun t _ y => by
    rw [cast_eq]
    exact one (resLoc m c) ((cfg0.win 4).xinj (cfg0.grid.coords t) y) (((cfg0.win 4).blk t).view.emb y)

/-- A one-by-one array as the scalar the host reshapes it to. -/
def scal (X : Vec Ideal S1x1 .f32) : FVec Ideal S_ .f32 := shapeCast S_ X shapeCasts_S1x1_S_

theorem scal_apply (X : Vec Ideal S1x1 .f32) (i : S_.Idx) : scal X i = X (ix2 (0 : Fin 1) (0 : Fin 1)) :=
  congrArg X (Subsingleton.elim (α := S1x1.Idx) _ _)

/-- The host's reshapes of the results' arrays. -/
theorem out_0 (c : Dev nD) : (Pipeline.afterTail₀ cfgs (dats m) 0 (V0 m) [hostOps1] c main_v0_0 : FVec Ideal S_ .f32) = scal (resAll m c) := by
  rw [← arr_2]
  unfold Pipeline.afterTail₀
  show StableHlo.after hostOps1 _ (Proc.devRef .tc main_v0_0) = _
  simp only [hostOps1, StableHlo.TRef.reshape, StableHlo.TRef.toBuf, StableHlo.TRef.ofBuf, cast_eq]
  after_results
  exact congrArg scal (Pipeline.withArrays_arr spec0 (by decide +kernel) c (V0 m c) (fun w => (dats m 0 c).arrAt w cfg0.N) 2)

theorem out_1 (c : Dev nD) : (Pipeline.afterTail₀ cfgs (dats m) 0 (V0 m) [hostOps1] c main_v0_1 : FVec Ideal S_ .f32) = scal (resConf m c) := by
  rw [← arr_3]
  unfold Pipeline.afterTail₀
  show StableHlo.after hostOps1 _ (Proc.devRef .tc main_v0_1) = _
  simp only [hostOps1, StableHlo.TRef.reshape, StableHlo.TRef.toBuf, StableHlo.TRef.ofBuf, cast_eq]
  after_results
  exact congrArg scal (Pipeline.withArrays_arr spec0 (by decide +kernel) c (V0 m c) (fun w => (dats m 0 c).arrAt w cfg0.N) 3)

theorem out_2 (c : Dev nD) : (Pipeline.afterTail₀ cfgs (dats m) 0 (V0 m) [hostOps1] c main_v0_2 : FVec Ideal S_ .f32) = scal (resLoc m c) := by
  rw [← arr_4]
  unfold Pipeline.afterTail₀
  show StableHlo.after hostOps1 _ (Proc.devRef .tc main_v0_2) = _
  simp only [hostOps1, StableHlo.TRef.reshape, StableHlo.TRef.toBuf, StableHlo.TRef.ofBuf, cast_eq]
  after_results
  exact congrArg scal (Pipeline.withArrays_arr spec0 (by decide +kernel) c (V0 m c) (fun w => (dats m 0 c).arrAt w cfg0.N) 4)

/-- The region's scratch, at any contents, is what is carried into the first point. -/
theorem phi_in (c : Dev nD) : Pipeline.ΦA spec0 c ⊢ (dats m 0 c).Φ 0 := by
  rw [show (dats m 0 c).Φ 0 = Φ m c 0 from rfl]
  unfold Pipeline.ΦA Φ
  rw [scopedRest0_eq]
  iintro ⟨⟨⟨%g0, G0⟩, ⟨%g1, G1⟩, ⟨%g2, G2⟩, ⟨%g3, G3⟩⟩, Hp⟩
  isplitr [Hp]
  · iexists g0, g1, g2, g3
    isplit
    · ipureintro
      exact fun _ => ⟨fun r n h => absurd h (by omega), fun h => absurd rfl h, fun h => absurd rfl h, fun h => absurd rfl h⟩
    isplitl [G0]; · iexact G0
    isplitl [G1]; · iexact G1
    isplitl [G2]; · iexact G2
    iexact G3
  · iexact Hp

/-- What is carried out of the last point is the region's scratch at some contents. -/
theorem phi_out (c : Dev nD) : (dats m 0 c).Φ (Fin.last cfg0.N) ⊢ Pipeline.ΦA spec0 c := by
  rw [show (dats m 0 c).Φ (Fin.last cfg0.N) = Φ m c (Fin.last cfg0.N).val from rfl]
  unfold Pipeline.ΦA Φ
  rw [scopedRest0_eq]
  iintro ⟨⟨%g0, %g1, %g2, %g3, -, G0, G1, G2, G3⟩, Hp⟩
  isplitr [Hp]
  · isplitl [G0]; · iexists g0; iexact G0
    isplitl [G1]; · iexists g1; iexact G1
    isplitl [G2]; · iexists g2; iexact G2
    iexists g3; iexact G3
  · iexact Hp

-- the launch theorem's implicit arguments are found by unifying its conclusion with this one
set_option backward.isDefEq.respectTransparency.types false in
/-- Every run ends with the results at their formulas, both arguments as they were and every counter at zero. -/
theorem run : θ_run defs (onTc (τ := τ) (main (F := Ideal))) (s₀ m ρ) (fun r =>
    (∀ c : Dev nD, r.2.mem ((c.tc : Thread nD τ).loc main_v0_0) = scal (resAll m c)
      ∧ r.2.mem ((c.tc : Thread nD τ).loc main_v0_1) = scal (resConf m c)
      ∧ r.2.mem ((c.tc : Thread nD τ).loc main_v0_2) = scal (resLoc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_track cfgs (dats m) 0 launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := phi_in m) (hout := phi_out m)
    (Q' := fun r => (∀ c : Dev nD, r.2.mem ((c.tc : Thread nD τ).loc main_v0_0) = scal (resAll m c)
      ∧ r.2.mem ((c.tc : Thread nD τ).loc main_v0_1) = scal (resConf m c)
      ∧ r.2.mem ((c.tc : Thread nD τ).loc main_v0_2) = scal (resLoc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c => ⟨((h.1 c).2 main_v0_0 (Pipeline.mem_restRefs_of main_v0_0 (by decide) (by decide))).trans (out_0 m c),
      ((h.1 c).2 main_v0_1 (Pipeline.mem_restRefs_of main_v0_1 (by decide) (by decide))).trans (out_1 m c),
      ((h.1 c).2 main_v0_2 (Pipeline.mem_restRefs_of main_v0_2 (by decide) (by decide))).trans (out_2 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩)

end Cert.KernelIdeal.Run

end
-- ==== Proof.Good.lean ====
/-
  The precondition on the arrays, and what it says of the anchors: labels are 0 or 1, predictions probabilities.
-/
module

public import proofs.«01_k».proof.Proof.Gen.Pre_inputs_in_range
public import proofs.«01_k».proof.Proof.Cells

@[expose] public section

set_option maxRecDepth 16384

noncomputable section

namespace Cert.Cells

open Idealize.ShloMosaic Idealize.ShloMosaic.Tactic

/-- One-bit words made of truth values. -/
theorem ori_ofBool (a b : Bool) : IntOp.ori (BitVec.ofBool a) (BitVec.ofBool b) = BitVec.ofBool (a || b) := by cases a <;> cases b <;> rfl
theorem andi_ofBool (a b : Bool) : IntOp.andi (BitVec.ofBool a) (BitVec.ofBool b) = BitVec.ofBool (a && b) := by cases a <;> cases b <;> rfl
theorem ofBool_one (a : Bool) : BitVec.ofBool a = 1#1 ↔ a = true := by cases a <;> decide

/-- Labels are 0 or 1 and predictions lie in [0, 1]. -/
structure Good (p g : Arr) : Prop where
  label : ∀ i, g i = 0 ∨ g i = 1
  nonneg : ∀ i, 0 ≤ p i
  le_one : ∀ i, p i ≤ 1

/-- The precondition's two masks say so. -/
theorem good_of_pre (p g : Arr) (h1 : (Cert.Pre_inputs_in_range.fn (F := Ideal) p g).1 = fun _ => 1#1)
    (h2 : (Cert.Pre_inputs_in_range.fn (F := Ideal) p g).2 = fun _ => 1#1) : Good p g := by
  have a : ∀ i, (g i = 0 ∨ g i = 1) := fun i => by
    have e := congrFun h1 i
    obtain ⟨r, n, x, rfl⟩ : ∃ (r : Fin 16) (n : Fin 8732) (x : Fin 85), i = ix3 r n x := ⟨i 0, i 1, i 2, eq_ix3 i⟩
    have : (Cert.Pre_inputs_in_range.fn (F := Ideal) p g).1 (ix3 r n x) = BitVec.ofBool (decide (g (ix3 r n x) = 0) || decide (g (ix3 r n x) = 1)) := by
      pointwise [Cert.Pre_inputs_in_range.fn]
      exact ori_ofBool _ _
    rw [this, ofBool_one] at e
    simpa [Bool.or_eq_true, Bool.and_eq_true] using e
  have b : ∀ i, (0 ≤ p i ∧ p i ≤ 1) := fun i => by
    have e := congrFun h2 i
    obtain ⟨r, n, x, rfl⟩ : ∃ (r : Fin 16) (n : Fin 8732) (x : Fin 85), i = ix3 r n x := ⟨i 0, i 1, i 2, eq_ix3 i⟩
    have : (Cert.Pre_inputs_in_range.fn (F := Ideal) p g).2 (ix3 r n x) = BitVec.ofBool (decide (0 ≤ p (ix3 r n x)) && decide (p (ix3 r n x) ≤ 1)) := by
      pointwise [Cert.Pre_inputs_in_range.fn]
      exact andi_ofBool _ _
    rw [this, ofBool_one] at e
    simpa [Bool.or_eq_true, Bool.and_eq_true] using e
  exact ⟨a, fun i => (b i).1, fun i => (b i).2⟩

/-- The larger of two reals, and a sum of reals, among the extended reals. -/
theorem coe_max (a b : ℝ) : ((max a b : ℝ) : EReal) = max (a : EReal) (b : EReal) := EReal.coe_strictMono.monotone.map_max
theorem coe_sum {ι : Type} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

theorem half_eq : half = ((1 / 2 : ℝ) : EReal) := rfl

theorem half_pos : (0 : EReal) < half := by rw [half_eq]; exact_mod_cast (by norm_num : (0 : ℝ) < 1 / 2)
theorem half_lt_one : half < 1 := by rw [half_eq]; exact_mod_cast (by norm_num : (1 / 2 : ℝ) < 1)

variable {p g : Arr}

/-- The positives are the anchors of background label 0. -/
theorem Good.pos_iff (h : Good p g) (r : Fin 16) (n : Fin 8732) : Pos g r n ↔ g (ix3 r n (0 : Fin 85)) = 0 := by
  unfold Pos
  rcases h.label (ix3 r n (0 : Fin 85)) with e | e <;> rw [e]
  · exact ⟨fun _ => rfl, fun _ => half_pos⟩
  · exact ⟨fun h => absurd h (not_lt.mpr half_lt_one.le), fun h => absurd h one_ne_zero⟩

/-- A prediction is a real in [0, 1]. -/
theorem Good.pred_real (h : Good p g) (i) : ∃ a : ℝ, p i = (a : EReal) ∧ 0 ≤ a ∧ a ≤ 1 := by
  have key : ∀ q : EReal, 0 ≤ q → q ≤ 1 → ∃ a : ℝ, q = (a : EReal) ∧ 0 ≤ a ∧ a ≤ 1 := fun q h0 h1 => by
    induction q with
    | bot => exact absurd h0 (by simp)
    | top => exact absurd h1 (not_le.mpr (EReal.coe_lt_top 1))
    | coe a => exact ⟨a, rfl, by exact_mod_cast h0, by exact_mod_cast h1⟩
  exact key (p i) (h.nonneg i) (h.le_one i)

/-- A label is the real 0 or 1. -/
theorem Good.label_real (h : Good p g) (i) : ∃ b : ℝ, g i = (b : EReal) ∧ (b = 0 ∨ b = 1) := by
  rcases h.label i with e | e
  · exact ⟨0, by rw [e]; rfl, .inl rfl⟩
  · exact ⟨1, by rw [e]; rfl, .inr rfl⟩

/-- The number of positives of a row. -/
def npos (g : Arr) (r : Fin 16) : ℕ := (Finset.univ.filter fun n : Fin 8732 => Pos g r n).card

theorem npos_le (g : Arr) (r : Fin 16) : npos g r ≤ 8732 := (Finset.card_le_univ _).trans (by simp)

/-- The kernel's count of a row's positives. -/
theorem acc_one (g : Arr) (r : Fin 16) : acc g (fun _ _ => 1) 9 r = ((npos g r : ℝ) : EReal) := by
  rw [acc_all]
  unfold npos
  rw [Finset.sum_ite, Finset.sum_const_zero, add_zero, Finset.sum_const, EReal.nsmul_eq_mul, mul_one]
  norm_cast

end Cert.Cells

end
-- ==== Proof.Out.lean ====
/-
  The kernel's results, as sums over the rows.
-/
module

public import proofs.«01_k».proof.Proof.Run
public import proofs.«01_k».proof.Proof.Good

@[expose] public section

set_option maxRecDepth 16384

noncomputable section

namespace Cert.KernelIdeal.Run

open Cert.KernelIdeal Cert.KernelIdeal.Gen Cert.KernelIdeal.Body Cert.KernelIdeal.Fetch Cert.Cells
open Idealize.ShloMosaic Idealize.ShloMosaic.Tactic

variable (m : (ℓ : Loc nD τ sig) → Buf (Elt Ideal) ℓ)

/-- The localisation loss the kernel stores. -/
theorem resLoc_at (c : Dev nD) (i : S_.Idx) : scal (resLoc m c) i
    = Ideal.div (∑ r : Fin 16, acc (argG m c) (hub (argP m c) (argG m c)) 9 r) ((∑ r : Fin 16, ((npos (argG m c) r : ℝ) : EReal)) * Ideal.ofBits .f32 1082130432#32) := by
  rw [scal_apply]
  have : resLoc m c (ix2 (0 : Fin 1) (0 : Fin 1)) = Ideal.div (∑ r : Fin 16, acc (argG m c) (hub (argP m c) (argG m c)) 9 r)
      ((∑ r : Fin 16, acc (argG m c) (fun _ _ => 1) 9 r) * Ideal.ofBits .f32 1082130432#32) := by
    pointwise [resLoc, outLoc, rowF, k0_pay14, k0_pay11, k0_pay23]
    simp only [Finset.univ_unique, Finset.sum_singleton]
  rw [this]
  simp only [acc_one]

/-- The confidence loss the kernel stores. -/
theorem resConf_at (c : Dev nD) (i : S_.Idx) : scal (resConf m c) i
    = Ideal.div ((∑ r : Fin 16, acc (argG m c) (ent (argP m c) (argG m c)) 9 r)
        + k0_pay22 (entF m c) (rowF m c fun _ _ => 1) (bis (entF m c) (rowF m c fun _ _ => 1)).1 (bis (entF m c) (rowF m c fun _ _ => 1)).2)
      (∑ r : Fin 16, ((npos (argG m c) r : ℝ) : EReal)) := by
  rw [scal_apply]
  simp only [← acc_one]
  pointwise [resConf, outConf, rowF, k0_pay13, k0_pay10, k0_pay23, k0_pay24]
  simp only [Finset.univ_unique, Finset.sum_singleton]

/-- The total the kernel stores. -/
theorem resAll_at (c : Dev nD) (i : S_.Idx) : scal (resAll m c) i = scal (resConf m c) i + scal (resLoc m c) i := by
  rw [scal_apply, scal_apply, scal_apply]
  show k0_pay12 _ _ _ _ (ix2 (0 : Fin 1) (0 : Fin 1)) = k0_pay13 _ _ _ (ix2 (0 : Fin 1) (0 : Fin 1)) + k0_pay14 _ _ (ix2 (0 : Fin 1) (0 : Fin 1))
  pointwise [k0_pay12, k0_pay13, k0_pay14]

end Cert.KernelIdeal.Run

end
-- ==== Proof.Ref.lean ====
/-
  The reference's run: its three results, composed of named steps.
-/
module

public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.Quiescent

@[expose] public section

set_option maxRecDepth 16384

noncomputable section

namespace Cert.ReferenceIdeal.Ref

open Cert.ReferenceIdeal Cert.ReferenceIdeal.Gen Cert.ReferenceIdeal.Facts
open Idealize.ShloMosaic Idealize.SL.Sem
open Idealize.ShloMosaic.TcCoe

variable (p g : FVec Ideal S16x8732x85 .f32)

/-- A scalar constant at every index of a row-by-anchor array. -/
def fill (w : BitVec 32) : FVec Ideal S16x8732 .f32 := broadcastInDim S16x8732 ![] bcast_S_S16x8732 (constant S_ .f32 w)
/-- A scalar constant at every class of every anchor. -/
def fill3 (w : BitVec 32) : FVec Ideal S16x8732x81 .f32 := broadcastInDim S16x8732x81 ![] bcast_S_S16x8732x81 (constant S_ .f32 w)
/-- A scalar constant at every box coordinate of every anchor. -/
def fill4 (w : BitVec 32) : FVec Ideal S16x8732x4 .f32 := broadcastInDim S16x8732x4 ![] bcast_S_S16x8732x4 (constant S_ .f32 w)
/-- An array's class columns. -/
def cls : FVec Ideal S16x8732x81 .f32 := extractStridedSlice S16x8732x81 ![0, 0, 0] p slices_S16x8732x85_S16x8732x81_0_0_0
/-- An array's box columns. -/
def box : FVec Ideal S16x8732x4 .f32 := extractStridedSlice S16x8732x4 ![0, 0, 81] p slices_S16x8732x85_S16x8732x4_0_0_81
/-- Which anchors are positives. -/
def posV : IVec S16x8732 1 :=
  cmpf .oeq (shapeCast S16x8732 (extractStridedSlice S16x8732x1 ![0, 0, 0] (cls g) slices_S16x8732x81_S16x8732x1_0_0_0) shapeCasts_S16x8732x1_S16x8732) (fill 0x00000000#32)
/-- How many positives a row has. -/
def nposV : IVec S16 32 :=
  Host.reduce IntOp.addi (extui 32 (posV g) natLt_1_32) (constantI S_ 32 0#32) reducesTo_S16x8732_S16_d1 h_S_
/-- How many hard negatives a row keeps. -/
def hardV : IVec S16 32 := muli (nposV g) (broadcastInDim S16 ![] bcast_S_S16 (constantI S_ 32 3#32))
/-- A probability clipped on both sides. -/
def clip (x : FVec Ideal S16x8732x81 .f32) : FVec Ideal S16x8732x81 .f32 := minimumf (fill3 0x3F7FFFFE#32) (maximumf (fill3 0x33D6BF95#32) x)
/-- The anchors' entropies. -/
def entV : FVec Ideal S16x8732 .f32 :=
  addf (Host.reduceAdd (mulf (cls g) (Host.negf (Host.log (clip (cls p))))) (constant S_ .f32 0x00000000#32) reducesTo_S16x8732x81_S16x8732_d2 h_S_)
    (Host.reduceAdd (mulf (subf (fill3 0x3F800000#32) (cls g)) (Host.negf (Host.log (clip (subf (fill3 0x3F800000#32) (cls p)))))) (constant S_ .f32 0x00000000#32) reducesTo_S16x8732x81_S16x8732_d2 h_S_)
/-- The entropies with the positives' replaced by zero. -/
def negV : FVec Ideal S16x8732 .f32 := select (posV g) (fill 0x00000000#32) (entV p g)
/-- Those, each row in falling order. -/
def descV : FVec Ideal S16x8732 .f32 := Host.negf (Host.sort S16x8732 1 comparator_f32_d1 (Host.negf (negV p g)))
/-- Which places of the falling order are kept. -/
def keepV : IVec S16x8732 1 :=
  cmpi .slt (broadcastInDim S16x8732 ![0, 1] bcast_S1x8732_S16x8732_0_1 (broadcastInDim S1x8732 ![1] bcast_S8732_S1x8732_1 (iotaInDim S8732 32 0)))
    (broadcastInDim S16x8732 ![0, 1] bcast_S16x1_S16x8732_0_1 (broadcastInDim S16x1 ![0] bcast_S16_S16x1_0 (hardV g)))
/-- The sum over the positives. -/
def lossPos : FVec Ideal S_ .f32 :=
  Host.reduceAdd (select (posV g) (entV p g) (fill 0x00000000#32)) (constant S_ .f32 0x00000000#32) reducesTo_S16x8732_S_d0_1 h_S_
/-- The sum over the hard negatives. -/
def lossNeg : FVec Ideal S_ .f32 :=
  Host.reduceAdd (select (keepV g) (descV p g) (fill 0x00000000#32)) (constant S_ .f32 0x00000000#32) reducesTo_S16x8732_S_d0_1 h_S_
/-- The number of positives. -/
def totV : FVec Ideal S_ .f32 := sitofp .f32 (Host.reduce IntOp.addi (nposV g) (constantI S_ 32 0#32) reducesTo_S16_S_d0 h_S_)
/-- The confidence loss. -/
def lossConf : FVec Ideal S_ .f32 := Host.divf (addf (lossPos p g) (lossNeg p g)) (totV g)
/-- The difference of the boxes. -/
def difV : FVec Ideal S16x8732x4 .f32 := subf (box p) (box g)
/-- The box coordinates' errors. -/
def hubV : FVec Ideal S16x8732x4 .f32 :=
  select (cmpf .olt (Host.absf (difV p g)) (fill4 0x3F800000#32)) (mulf (mulf (fill4 0x3F000000#32) (difV p g)) (difV p g))
    (mulf (fill4 0x3F800000#32) (subf (Host.absf (difV p g)) (fill4 0x3F000000#32)))
/-- The sum of the positives' box errors. -/
def lossBox : FVec Ideal S_ .f32 :=
  Host.reduceAdd (select (broadcastInDim S16x8732x4 ![0, 1, 2] bcast_S16x8732x1_S16x8732x4_0_1_2 (broadcastInDim S16x8732x1 ![0, 1] bcast_S16x8732_S16x8732x1_0_1 (posV g)))
    (hubV p g) (fill4 0x00000000#32)) (constant S_ .f32 0x00000000#32) reducesTo_S16x8732x4_S_d0_1_2 h_S_
/-- The localisation loss. -/
def lossLoc : FVec Ideal S_ .f32 := Host.divf (lossBox p g) (mulf (totV g) (constant S_ .f32 0x40800000#32))
/-- The total. -/
def lossAll : FVec Ideal S_ .f32 :=
  addf (mulf (constant S_ .f32 0x3F800000#32) (lossConf p g)) (mulf (constant S_ .f32 0x3F800000#32) (lossLoc p g))

/-- Every run of the reference ends with the three results at these values, the arguments unchanged and every counter at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v64) = lossAll (m ((c.tc : Thread nD τ).loc main_arg0)) (m ((c.tc : Thread nD τ).loc main_arg1))
      ∧ r.2.mem ((c.tc : Thread nD τ).loc main_v44) = lossConf (m ((c.tc : Thread nD τ).loc main_arg0)) (m ((c.tc : Thread nD τ).loc main_arg1))
      ∧ r.2.mem ((c.tc : Thread nD τ).loc main_v61) = lossLoc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans rfl, (h c).2.1.trans rfl, (h c).2.2.1.trans rfl, (h c).2.2.2.1, (h c).2.2.2.2⟩,
      sem_eq_zero_of_no_sems (by decide) r.2⟩)
    (Value.run (F := Ideal) m ρ)

end Cert.ReferenceIdeal.Ref

end
-- ==== Proof.RefAt.lean ====
/-
  The reference's steps at an index, over arrays within the precondition.
-/
module

public import proofs.«01_k».proof.Proof.Ref
public import proofs.«01_k».proof.Proof.Good
public import Idealize.ShloMosaic.Lib.IndicatorCount

@[expose] public section

set_option maxRecDepth 16384

noncomputable section

namespace Cert.ReferenceIdeal.Ref

open Cert.ReferenceIdeal Cert.ReferenceIdeal.Gen Cert.Cells
open Idealize.ShloMosaic Idealize.ShloMosaic.Tactic

variable {p g : FVec Ideal S16x8732x85 .f32}

/-- The positives' mask. -/
theorem posV_at (h : Good p g) (r : Fin 16) (n : Fin 8732) : posV g (ix2 r n) = BitVec.ofBool (decide (Pos g r n)) := by
  have : posV g (ix2 r n) = BitVec.ofBool (decide (g (ix3 r n (0 : Fin 85)) = 0)) := by pointwise [posV, cls, fill]
  rw [this]
  congr 1
  exact decide_eq_decide.mpr (h.pos_iff r n).symm

/-- A choice on the positives' mask. -/
theorem select_posV {α : Type} (h : Good p g) (r : Fin 16) (n : Fin 8732) (a b : α) :
    Scalar.select (posV g (ix2 r n)) a b = if Pos g r n then a else b := by
  rw [posV_at h]
  by_cases hp : Pos g r n <;> simp [hp, Scalar.select]

/-- A row's count of positives, as a word. -/
theorem nposV_at (h : Good p g) (r : Fin 16) : nposV g (ix1 r) = BitVec.ofNat 32 (npos g r) := by
  have : nposV g (ix1 r) = Finset.fold IntOp.addi (0#32) (fun x => BitVec.setWidth 32 (posV g (ix2 r x))) Finset.univ := by pointwise [nposV]
  rw [this, IndicatorCount.fold_addi_setWidth_eq_card]
  unfold npos
  refine congrArg (fun k => BitVec.ofNat 32 k) (congrArg Finset.card (Finset.ext fun n => ?_))
  simp only [Finset.mem_filter, Finset.mem_univ, true_and, posV_at h, ofBool_one, decide_eq_true_eq]

/-- A sum of words made of counts is the word of the counts' sum. -/
theorem fold_addi_ofNat {ι : Type} (f : ι → ℕ) (S : Finset ι) :
    S.fold IntOp.addi (0#32) (fun k => BitVec.ofNat 32 (f k)) = BitVec.ofNat 32 (∑ k ∈ S, f k) := by
  classical
  induction S using Finset.induction_on with
  | empty => rfl
  | insert a S ha ih => rw [Finset.fold_insert ha, ih, Finset.sum_insert ha]; exact (BitVec.ofNat_add _ _).symm

/-- A word made of a count below the word's sign bit reads as that count. -/
theorem sitofp_ofNat (n : ℕ) (hn : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by simp; omega)]
  rw [BitVec.toNat_ofNat, Nat.mod_eq_of_lt (by omega)]
  rfl

/-- The count of all the positives. -/
theorem totV_at (h : Good p g) (i : S_.Idx) : totV g i = ∑ r : Fin 16, ((npos g r : ℝ) : EReal) := by
  have : totV g i = FloatOps.sitofp (F := Ideal) .f32 (Finset.fold IntOp.addi (0#32) (fun k => nposV g (ix1 k)) Finset.univ) := by pointwise [totV]
  rw [this, show (fun k => nposV g (ix1 k)) = fun k => BitVec.ofNat 32 (npos g k) from funext fun r => nposV_at h r, fold_addi_ofNat, sitofp_ofNat]
  · rw [← coe_sum]
    push_cast
    rfl
  · calc ∑ r, npos g r ≤ ∑ _r : Fin 16, 8732 := Finset.sum_le_sum fun r _ => npos_le g r
      _ < 2 ^ 31 := by simp

/-- A box coordinate's error is at most one half of a square: the larger of the two formulas the kernel takes. -/
theorem hubV_at (h : Good p g) (r : Fin 16) (n : Fin 8732) (x : Fin 4) :
    hubV p g (ix3 r n x) = max (half * dif p g r n x * dif p g r n x) (FloatOps.absf (F := Ideal) (φ := .f32) (dif p g r n x) - half) := by
  have : hubV p g (ix3 r n x) = if FloatOps.absf (F := Ideal) (φ := .f32) (dif p g r n x) < 1 then half * dif p g r n x * dif p g r n x
      else FloatOps.absf (F := Ideal) (φ := .f32) (dif p g r n x) - half := by
    pointwise [hubV, difV, box, fill4, ofBits_half]
    rfl
  rw [this]
  have hd : FloatOps.absf (F := Ideal) (φ := .f32) (dif p g r n x) = max (dif p g r n x) (-dif p g r n x) := rfl
  obtain ⟨a, ha, ha0, ha1⟩ := h.pred_real (ix3 r n (⟨81 + x.val, by omega⟩ : Fin 85))
  obtain ⟨b, hb, hb0⟩ := h.label_real (ix3 r n (⟨81 + x.val, by omega⟩ : Fin 85))
  have e : dif p g r n x = ((a - b : ℝ) : EReal) := by unfold dif; rw [ha, hb]; rfl
  rw [hd, e, half_eq]
  have hm : max (((a - b : ℝ) : EReal)) (-((a - b : ℝ) : EReal)) = ((|a - b| : ℝ) : EReal) := by
    rw [← EReal.coe_neg, ← coe_max]; rfl
  have h1 : |a - b| ≤ 1 := by rcases hb0 with rfl | rfl <;> rw [abs_le] <;> constructor <;> linarith
  rw [hm, ← EReal.coe_mul, ← EReal.coe_mul, ← EReal.coe_sub, ← coe_max, ← EReal.coe_one]
  have hs : (1 / 2 : ℝ) * (a - b) * (a - b) = 1 / 2 * |a - b| ^ 2 := by rw [sq_abs]; ring
  rw [hs]
  split_ifs with hl
  · rw [max_eq_left (by nlinarith [sq_nonneg (|a - b| - 1)])]
  · rw [EReal.coe_lt_coe_iff, not_lt] at hl
    rw [le_antisymm h1 hl]
    norm_num

/-- The positives' box errors. -/
theorem lossBox_at (h : Good p g) (i : S_.Idx) : lossBox p g i = ∑ r : Fin 16, acc g (hub p g) 9 r := by
  have : lossBox p g i = ∑ r : Fin 16, ∑ n : Fin 8732, ∑ x : Fin 4, Scalar.select (posV g (ix2 r n)) (hubV p g (ix3 r n x)) 0 := by
    pointwise [lossBox, fill4]
  rw [this]
  refine Finset.sum_congr rfl fun r _ => ?_
  rw [acc_all]
  refine Finset.sum_congr rfl fun n _ => ?_
  simp only [select_posV h, hubV_at h]
  by_cases hp : Pos g r n <;> simp [hp, hub]

/-- The sum over the positives' entropies. -/
theorem lossPos_at (h : Good p g) (i : S_.Idx) :
    lossPos p g i = ∑ r : Fin 16, ∑ n : Fin 8732, if Pos g r n then entV p g (ix2 r n) else 0 := by
  have : lossPos p g i = ∑ r : Fin 16, ∑ n : Fin 8732, Scalar.select (posV g (ix2 r n)) (entV p g (ix2 r n)) 0 := by
    pointwise [lossPos, fill]
  rw [this]
  simp only [select_posV h]

/-- The localisation loss. -/
theorem lossLoc_at (h : Good p g) (i : S_.Idx) :
    lossLoc p g i = Ideal.div (∑ r : Fin 16, acc g (hub p g) 9 r) ((∑ r : Fin 16, ((npos g r : ℝ) : EReal)) * Ideal.ofBits .f32 1082130432#32) := by
  have : lossLoc p g i = Ideal.div (lossBox p g i) (totV g i * Ideal.ofBits .f32 1082130432#32) := by pointwise [lossLoc]
  rw [this, lossBox_at h, totV_at h]

end Cert.ReferenceIdeal.Ref

end
-- ==== Proof.Ent.lean ====
/-
  The two programs' entropies: equal where no probability of a true class lies above the reference's upper clip, and
  reals from 0 up.
-/
module

public import proofs.«01_k».proof.Proof.RefAt

@[expose] public section

set_option maxRecDepth 16384

noncomputable section

namespace Cert.ReferenceIdeal.Ref

open Cert.ReferenceIdeal Cert.ReferenceIdeal.Gen Cert.Cells
open Idealize.ShloMosaic Idealize.ShloMosaic.Tactic

variable {p g : FVec Ideal S16x8732x85 .f32}

/-- The probability given to a class's own label. -/
def own (p g : FVec Ideal S16x8732x85 .f32) (r : Fin 16) (n : Fin 8732) (x : Fin 81) : EReal :=
  if half < g (ix3 r n (⟨x.val, by omega⟩ : Fin 85)) then p (ix3 r n (⟨x.val, by omega⟩ : Fin 85)) else 1 - p (ix3 r n (⟨x.val, by omega⟩ : Fin 85))

/-- None of an anchor's lies above the reference's upper clip. -/
def Unclipped (p g : FVec Ideal S16x8732x85 .f32) (r : Fin 16) (n : Fin 8732) : Prop := ∀ x, own p g r n x ≤ Ideal.ofBits .f32 1065353214#32

/-- The lower clip is a positive real, below the upper clip. -/
theorem eps_real : ∃ e : ℝ, eps = (e : EReal) ∧ 0 < e ∧ e ≤ 1 ∧ eps ≤ Ideal.ofBits .f32 1065353214#32 := by
  have h1 : eps = ((14073749 / 2 ^ 47 : ℝ) : EReal) := by
    simp [eps, Ideal.ofBits, Ideal.ieee, -EReal.coe_mul]
    norm_num
  have h2 : Ideal.ofBits .f32 1065353214#32 = ((16777214 / 2 ^ 24 : ℝ) : EReal) := by
    simp [Ideal.ofBits, Ideal.ieee, -EReal.coe_mul]
    norm_num
  refine ⟨_, h1, by norm_num, by norm_num, ?_⟩
  rw [h1, h2, EReal.coe_le_coe_iff]
  norm_num

theorem own_real (h : Good p g) (r : Fin 16) (n : Fin 8732) (x : Fin 81) : ∃ a : ℝ, own p g r n x = (a : EReal) ∧ a ≤ 1 := by
  obtain ⟨a, ha, ha0, ha1⟩ := h.pred_real (ix3 r n (⟨x.val, by omega⟩ : Fin 85))
  unfold own
  rw [ha]
  split_ifs
  · exact ⟨a, rfl, ha1⟩
  · exact ⟨1 - a, rfl, by linarith⟩

/-- A class's share of an anchor's entropy. -/
theorem log_real (h : Good p g) (r : Fin 16) (n : Fin 8732) (x : Fin 81) : ∃ y : ℝ, Ideal.log (max (own p g r n x) eps) = (y : EReal) ∧ y ≤ 0 := by
  obtain ⟨e, he, he0, he1, -⟩ := eps_real
  obtain ⟨a, ha, ha1⟩ := own_real h r n x
  refine ⟨Real.log (max a e), ?_, Real.log_nonpos (le_max_of_le_right he0.le) (max_le ha1 he1)⟩
  rw [ha, he, ← coe_max]
  show (if max a e ≤ 0 then (⊥ : EReal) else ((Real.log (max a e) : ℝ) : EReal)) = _
  rw [if_neg (not_le.mpr (lt_max_of_lt_right he0))]

/-- The kernel's entropy is a real from 0 up. -/
theorem ent_real (h : Good p g) (r : Fin 16) (n : Fin 8732) : ∃ y : ℝ, ent p g r n = (y : EReal) ∧ 0 ≤ y
    ∧ ∑ x : Fin 81, -Ideal.log (max (own p g r n x) eps) = (y : EReal) := by
  choose f hf hf0 using log_real h r n
  refine ⟨∑ x, -f x, ?_, Finset.sum_nonneg fun x _ => neg_nonneg.mpr (hf0 x), ?_⟩
  · show 0 - ∑ x : Fin 81, Ideal.log (max (own p g r n x) eps) = _
    simp only [hf]
    rw [← coe_sum, Finset.sum_neg_distrib, EReal.coe_neg, zero_sub]
  · simp only [hf, ← EReal.coe_neg]
    rw [← coe_sum]

/-- The reference's entropy is the kernel's. -/
theorem entV_at (h : Good p g) (r : Fin 16) (n : Fin 8732) (hu : Unclipped p g r n) : entV p g (ix2 r n) = ent p g r n := by
  have e0 : entV p g (ix2 r n) = ∑ x : Fin 81, g (ix3 r n (⟨x.val, by omega⟩ : Fin 85)) * -Ideal.log (min (Ideal.ofBits .f32 1065353214#32) (max eps (p (ix3 r n (⟨x.val, by omega⟩ : Fin 85)))))
      + ∑ x : Fin 81, (1 - g (ix3 r n (⟨x.val, by omega⟩ : Fin 85))) * -Ideal.log (min (Ideal.ofBits .f32 1065353214#32) (max eps (1 - p (ix3 r n (⟨x.val, by omega⟩ : Fin 85))))) := by
    pointwise [entV, clip, fill3, cls, eps]
  obtain ⟨y, hy, -, hs⟩ := ent_real h r n
  obtain ⟨-, -, -, -, heh⟩ := eps_real
  rw [e0, hy, ← hs, ← Finset.sum_add_distrib]
  refine Finset.sum_congr rfl fun x _ => ?_
  have hux := hu x
  unfold own at hux ⊢
  rcases h.label (ix3 r n (⟨x.val, by omega⟩ : Fin 85)) with e | e
  · rw [e, if_neg (not_lt.mpr half_pos.le)] at hux ⊢
    rw [zero_mul, zero_add, sub_zero, one_mul, max_comm, min_eq_right (max_le hux heh)]
  · rw [e, if_pos half_lt_one] at hux ⊢
    rw [one_mul, show (1 : EReal) - 1 = 0 from by rw [← EReal.coe_one, ← EReal.coe_sub, sub_self, EReal.coe_zero], zero_mul, add_zero, max_comm, min_eq_right (max_le hux heh)]

/-- The entropy of an anchor that is not a positive, and 0 at a positive. -/
def neg (p g : FVec Ideal S16x8732x85 .f32) (r : Fin 16) (n : Fin 8732) : ℝ := if Pos g r n then 0 else (ent p g r n).toReal

theorem neg_nonneg' (h : Good p g) (r : Fin 16) (n : Fin 8732) : 0 ≤ neg p g r n := by
  obtain ⟨y, hy, hy0, -⟩ := ent_real h r n
  unfold neg
  rw [hy]
  split_ifs
  · exact le_rfl
  · exact hy0

/-- What the reference sorts, and what the kernel keeps, is that. -/
theorem negV_at (h : Good p g) (r : Fin 16) (n : Fin 8732) (hu : Unclipped p g r n) : negV p g (ix2 r n) = ((neg p g r n : ℝ) : EReal) := by
  have : negV p g (ix2 r n) = Scalar.select (posV g (ix2 r n)) 0 (entV p g (ix2 r n)) := by pointwise [negV, fill]
  obtain ⟨y, hy, hy0, -⟩ := ent_real h r n
  rw [this, select_posV h, entV_at h r n hu]
  unfold neg
  rw [hy]
  split_ifs <;> rfl

theorem kept_at (h : Good p g) (r : Fin 16) (n : ℕ) : kept p g r n = (((if hn : n < 8732 then neg p g r ⟨n, hn⟩ else 0) : ℝ) : EReal) := by
  unfold kept neg
  split_ifs with hn
  · rfl
  · obtain ⟨y, hy, -, -⟩ := ent_real h r ⟨n, hn⟩
    rw [hy]
    rfl
  · rfl

end Cert.ReferenceIdeal.Ref

end
-- ==== Proof.Halving.lean ====
/-
  The mining's mathematics over the reals: halving [0, s] in search of the k-th largest value, and the sum a threshold
  between the k largest values and the others gives.
-/
module

public import proofs.«01_k».proof.Proof.Cells

@[expose] public section

noncomputable section

namespace Cert.Halving

/-- The interval left after `n` halvings of [0, s]: one of 2ⁿ equal cells, the one holding `κ` where the halvings compare with `κ`. -/
structure Cell (s κ : ℝ) (cond : Prop) (n : ℕ) (lo hi : ℝ) (a : ℕ) : Prop where
  lo_eq : lo = a * s / 2 ^ n
  hi_eq : hi = (a + 1) * s / 2 ^ n
  lt_pow : a < 2 ^ n
  above : cond → a ≠ 0 → lo < κ
  below : cond → κ ≤ hi

theorem Cell.start (s κ : ℝ) (cond : Prop) (h : cond → κ ≤ s) : Cell s κ cond 0 0 s 0 :=
  ⟨by simp, by simp, by simp, fun _ h => absurd rfl h, h⟩

theorem Cell.mid {s κ : ℝ} {cond : Prop} {n : ℕ} {lo hi : ℝ} {a : ℕ} (h : Cell s κ cond n lo hi a) :
    1 / 2 * (lo + hi) = (a + 1 / 2) * s / 2 ^ n := by
  rw [h.lo_eq, h.hi_eq]; ring

theorem Cell.mid_nonneg {s κ : ℝ} {cond : Prop} {n : ℕ} {lo hi : ℝ} {a : ℕ} (hs : 0 ≤ s) (h : Cell s κ cond n lo hi a) :
    0 ≤ 1 / 2 * (lo + hi) := by
  rw [h.mid]; positivity

/-- The middle lies below the interval's end. -/
theorem Cell.mid_lt {s κ : ℝ} {cond : Prop} {n : ℕ} {lo hi : ℝ} {a : ℕ} (hs : 0 < s) (h : Cell s κ cond n lo hi a) :
    1 / 2 * (lo + hi) < s := by
  have h2 : (0 : ℝ) < 2 ^ n := by positivity
  have ha : (a : ℝ) + 1 ≤ 2 ^ n := by exact_mod_cast h.lt_pow
  rw [h.mid, div_lt_iff₀ h2, mul_comm s]
  exact mul_lt_mul_of_pos_right (by linarith) hs

/-- The middle is no further from `κ` than half a cell. -/
theorem Cell.near {s κ : ℝ} {cond : Prop} {n : ℕ} {lo hi : ℝ} {a : ℕ} (h : Cell s κ cond n lo hi a) (hκ : 0 ≤ κ) (hc : cond) :
    |1 / 2 * (lo + hi) - κ| ≤ s / 2 ^ n / 2 := by
  have hw : hi - lo = s / 2 ^ n := by rw [h.lo_eq, h.hi_eq]; ring
  have hb := h.below hc
  have hl : lo ≤ κ := by
    rcases Nat.eq_zero_or_pos a with ha | ha
    · rw [h.lo_eq, ha]; simpa using hκ
    · exact (h.above hc ha.ne').le
  rw [← hw, abs_le]
  constructor <;> linarith

/-- The right half, where the middle lies below `κ`. -/
theorem Cell.right {s κ : ℝ} {cond : Prop} {n : ℕ} {lo hi : ℝ} {a : ℕ} (h : Cell s κ cond n lo hi a)
    (hm : cond → 1 / 2 * (lo + hi) < κ) : Cell s κ cond (n + 1) (1 / 2 * (lo + hi)) hi (2 * a + 1) := by
  refine ⟨?_, ?_, by have := h.lt_pow; rw [pow_succ]; omega, fun hc _ => hm hc, h.below⟩
  · rw [h.mid, pow_succ]; push_cast; field_simp
  · rw [h.hi_eq, pow_succ]; push_cast; field_simp; ring

/-- The left half, where it does not. -/
theorem Cell.left {s κ : ℝ} {cond : Prop} {n : ℕ} {lo hi : ℝ} {a : ℕ} (h : Cell s κ cond n lo hi a)
    (hm : cond → κ ≤ 1 / 2 * (lo + hi)) : Cell s κ cond (n + 1) lo (1 / 2 * (lo + hi)) (2 * a) := by
  refine ⟨?_, ?_, by have := h.lt_pow; rw [pow_succ]; omega, fun hc ha => h.above hc (by omega), hm⟩
  · rw [h.lo_eq, pow_succ]; push_cast; field_simp
  · rw [h.mid, pow_succ]; push_cast; field_simp

/-- The middle of the last cell, named by `κ` alone. -/
theorem Cell.mid_eq {s κ : ℝ} {cond : Prop} {n : ℕ} {lo hi : ℝ} {a : ℕ} (h : Cell s κ cond n lo hi a) (hs : 0 < s) (hκ : 0 ≤ κ) (hc : cond) :
    1 / 2 * (lo + hi) = (max ((⌈κ * 2 ^ n / s⌉ : ℝ) - 1) 0 + 1 / 2) * s / 2 ^ n := by
  have h2 : (0 : ℝ) < 2 ^ n := by positivity
  have key : max ((⌈κ * 2 ^ n / s⌉ : ℝ) - 1) 0 = a := by
    have hb : κ * 2 ^ n / s ≤ a + 1 := by
      have := h.below hc
      rw [h.hi_eq, le_div_iff₀ h2] at this
      rw [div_le_iff₀ hs]; exact this
    have hb' : ⌈κ * 2 ^ n / s⌉ ≤ (a : ℤ) + 1 := Int.ceil_le.mpr (by push_cast; exact hb)
    have hb'' : (⌈κ * 2 ^ n / s⌉ : ℝ) ≤ a + 1 := by exact_mod_cast hb'
    rcases Nat.eq_zero_or_pos a with rfl | ha
    · rw [max_eq_right (by push_cast at hb''; linarith), Nat.cast_zero]
    · have hl := h.above hc ha.ne'
      rw [h.lo_eq, div_lt_iff₀ h2] at hl
      have hl' : (a : ℝ) < κ * 2 ^ n / s := by rw [lt_div_iff₀ hs]; exact hl
      have hl'' : (a : ℤ) < ⌈κ * 2 ^ n / s⌉ := Int.lt_ceil.mpr (by push_cast; exact hl')
      have : (⌈κ * 2 ^ n / s⌉ : ℝ) = a + 1 := by exact_mod_cast le_antisymm hb' hl''
      rw [this, add_sub_cancel_right, max_eq_left (by positivity)]
  rw [h.mid, key]

/-- Where the middle's cell has no width it is zero. -/
theorem Cell.mid_zero {κ : ℝ} {cond : Prop} {n : ℕ} {lo hi : ℝ} {a : ℕ} (h : Cell 0 κ cond n lo hi a) : 1 / 2 * (lo + hi) = 0 := by
  rw [h.mid]; simp

variable {n : ℕ} (d : Fin n → ℝ)

/-- How many values lie above `x`. -/
def cnt (x : ℝ) : ℕ := (Finset.univ.filter fun i => x < d i).card

variable {d}

/-- At least `k` of a falling list's values lie above `x` just when its `k`-th does. -/
theorem le_cnt (hd : Antitone d) (k : ℕ) (h1 : 1 ≤ k) (hk : k - 1 < n) (x : ℝ) : k ≤ cnt d x ↔ x < d ⟨k - 1, hk⟩ := by
  unfold cnt
  constructor
  · intro h
    by_contra hx
    have hs : (Finset.univ.filter fun i => x < d i) ⊆ Finset.univ.filter fun i : Fin n => i.val < k - 1 := by
      intro i hi
      rw [Finset.mem_filter] at hi ⊢
      refine ⟨Finset.mem_univ _, ?_⟩
      by_contra hik
      exact absurd (lt_of_lt_of_le hi.2 (hd (show (⟨k - 1, hk⟩ : Fin n) ≤ i from Fin.le_def.mpr (by simp only; omega)))) hx
    have hc := Finset.card_le_card hs
    rw [Fin.card_filter_val_lt] at hc
    omega
  · intro h
    have hs : (Finset.univ.filter fun i : Fin n => i.val < k) ⊆ Finset.univ.filter fun i => x < d i := by
      intro i hi
      rw [Finset.mem_filter] at hi ⊢
      exact ⟨Finset.mem_univ _, lt_of_lt_of_le h (hd (show i ≤ (⟨k - 1, hk⟩ : Fin n) from Fin.le_def.mpr (by simp only; omega)))⟩
    have hc := Finset.card_le_card hs
    rw [Fin.card_filter_val_lt] at hc
    omega

/-- The values above a threshold that parts the `k` largest from the others, and the threshold for each one short of `k`: the sum of the `k` largest. -/
theorem sum_parted (k : ℕ) (hk : k ≤ n) (t : ℝ) (ha : ∀ i : Fin n, i.val < k → t ≤ d i) (hb : ∀ i : Fin n, ¬ i.val < k → d i ≤ t) :
    (∑ i, if t < d i then d i else 0) + ((k : ℝ) - cnt d t) * t = ∑ i : Fin n, if i.val < k then d i else 0 := by
  have h1 : ((cnt d t : ℕ) : ℝ) * t = ∑ i, if t < d i then t else 0 := by
    unfold cnt
    rw [← Finset.sum_filter, Finset.sum_const, nsmul_eq_mul]
  have h2 : (k : ℝ) * t = ∑ i : Fin n, if i.val < k then t else 0 := by
    rw [← Finset.sum_filter, Finset.sum_const, nsmul_eq_mul, Fin.card_filter_val_lt, Nat.min_eq_right hk]
  rw [sub_mul, h1, h2, add_sub, ← Finset.sum_add_distrib, ← Finset.sum_sub_distrib]
  refine Finset.sum_congr rfl fun i _ => ?_
  by_cases hi : i.val < k
  · have := ha i hi
    simp only [hi, if_true]
    split_ifs with h
    · ring
    · linarith [not_lt.mp h]
  · have := hb i hi
    simp only [hi, if_false]
    split_ifs with h
    · linarith
    · ring

end Cert.Halving

end
-- ==== Proof.Mining.lean ====
/-
  The kernel's bisection, row by row: the cell it ends in, and what the last formula makes of it.
-/
module

public import proofs.«01_k».proof.Proof.Out
public import proofs.«01_k».proof.Proof.Ent
public import proofs.«01_k».proof.Proof.Halving

@[expose] public section

set_option maxRecDepth 16384

noncomputable section

namespace Cert.Mining

open Cert.KernelIdeal Cert.KernelIdeal.Gen Cert.KernelIdeal.Body Cert.Cells Cert.Halving
open Cert.ReferenceIdeal.Ref (neg)
open Idealize.ShloMosaic Idealize.ShloMosaic.Tactic

variable (E : Vec Ideal S16x9216 .f32) (N lo hi : FVec Ideal S16x1 .f32)

/-- How many of a row's values lie above a threshold. -/
def count (r : Fin 16) (t : EReal) : EReal :=
  ∑ x : Fin 9216, FloatOps.sitofp (F := Ideal) FTy.f32 (BitVec.setWidth 32 (BitVec.ofBool (decide (t < E (ix2 r x)))))

/-- The sum of those. -/
def above (r : Fin 16) (t : EReal) : EReal := ∑ x : Fin 9216, if t < E (ix2 r x) then E (ix2 r x) else 0

/-- How many values a row's mining keeps. -/
def need (r : Fin 16) : EReal := k0_pay15 (F := Ideal) N (ix2 r (0 : Fin 1))

theorem pay19_at (r : Fin 16) : k0_pay19 E N lo hi (ix2 r (0 : Fin 1))
    = BitVec.ofBool (decide (need N r ≤ count E r (half * (lo (ix2 r (0 : Fin 1)) + hi (ix2 r (0 : Fin 1)))))) := by
  pointwise [k0_pay19, k0_pay18, ofBits_half, count, need]

theorem pay18_at (r : Fin 16) : k0_pay18 lo hi (ix2 r (0 : Fin 1)) = half * (lo (ix2 r (0 : Fin 1)) + hi (ix2 r (0 : Fin 1))) := by
  pointwise [k0_pay18, ofBits_half]

theorem pay20_at (r : Fin 16) : k0_pay20 E N lo hi (ix2 r (0 : Fin 1))
    = if need N r ≤ count E r (half * (lo (ix2 r (0 : Fin 1)) + hi (ix2 r (0 : Fin 1))))
      then half * (lo (ix2 r (0 : Fin 1)) + hi (ix2 r (0 : Fin 1))) else lo (ix2 r (0 : Fin 1)) := by
  have : k0_pay20 E N lo hi (ix2 r (0 : Fin 1)) = Scalar.select (k0_pay19 E N lo hi (ix2 r (0 : Fin 1))) (k0_pay18 lo hi (ix2 r (0 : Fin 1))) (lo (ix2 r (0 : Fin 1))) := by
    pointwise [k0_pay20]
  rw [this, pay19_at, pay18_at]
  by_cases h : need N r ≤ count E r (half * (lo (ix2 r (0 : Fin 1)) + hi (ix2 r (0 : Fin 1)))) <;> simp [h, Scalar.select]

theorem pay21_at (r : Fin 16) : k0_pay21 E N lo hi (ix2 r (0 : Fin 1))
    = if need N r ≤ count E r (half * (lo (ix2 r (0 : Fin 1)) + hi (ix2 r (0 : Fin 1))))
      then hi (ix2 r (0 : Fin 1)) else half * (lo (ix2 r (0 : Fin 1)) + hi (ix2 r (0 : Fin 1))) := by
  have : k0_pay21 E N lo hi (ix2 r (0 : Fin 1)) = Scalar.select (k0_pay19 E N lo hi (ix2 r (0 : Fin 1))) (hi (ix2 r (0 : Fin 1))) (k0_pay18 lo hi (ix2 r (0 : Fin 1))) := by
    pointwise [k0_pay21]
  rw [this, pay19_at, pay18_at]
  by_cases h : need N r ≤ count E r (half * (lo (ix2 r (0 : Fin 1)) + hi (ix2 r (0 : Fin 1)))) <;> simp [h, Scalar.select]

theorem need_at (r : Fin 16) : need N r = ((3 : ℝ) : EReal) * N (ix2 r (0 : Fin 1)) := by
  have h3 : Ideal.ofBits .f32 1077936128#32 = ((3 : ℝ) : EReal) := by
    simp [Ideal.ofBits, Ideal.ieee, -EReal.coe_mul]
    norm_num
  rw [← h3]
  pointwise [need, k0_pay15]

theorem pay22_at : k0_pay22 E N lo hi = ∑ r : Fin 16, (above E r (half * (lo (ix2 r (0 : Fin 1)) + hi (ix2 r (0 : Fin 1))))
    + (need N r - count E r (half * (lo (ix2 r (0 : Fin 1)) + hi (ix2 r (0 : Fin 1))))) * (half * (lo (ix2 r (0 : Fin 1)) + hi (ix2 r (0 : Fin 1))))) := by
  pointwise [k0_pay22, ofBits_half, count, above, need]
  simp only [Finset.univ_unique, Finset.sum_singleton]

/-- A row's interval is a cell of `n` halvings. -/
def At (s κ : ℝ) (cond : Prop) (n : ℕ) (r : Fin 16) (st : FVec Ideal S16x1 .f32 × FVec Ideal S16x1 .f32) : Prop :=
  ∃ (x y : ℝ) (a : ℕ), st.1 (ix2 r (0 : Fin 1)) = (x : EReal) ∧ st.2 (ix2 r (0 : Fin 1)) = (y : EReal) ∧ Cell s κ cond n x y a

theorem half_mid (x y : ℝ) : half * ((x : EReal) + (y : EReal)) = ((1 / 2 * (x + y) : ℝ) : EReal) := by
  rw [half_eq, ← EReal.coe_add, ← EReal.coe_mul]

/-- One halving. -/
theorem At.halve {s κ : ℝ} {cond : Prop} {n : ℕ} {r : Fin 16} {st : FVec Ideal S16x1 .f32 × FVec Ideal S16x1 .f32} (hs : 0 ≤ s) (hs' : cond → 0 < s)
    (hc : cond → ∀ x : ℝ, 0 ≤ x → x < s → (need N r ≤ count E r (x : EReal) ↔ x < κ)) (h : At s κ cond n r st) :
    At s κ cond (n + 1) r (k0_pay20 E N st.1 st.2, k0_pay21 E N st.1 st.2) := by
  obtain ⟨x, y, a, hx, hy, h⟩ := h
  have h0 := h.mid_nonneg hs
  by_cases hd : need N r ≤ count E r ((1 / 2 * (x + y) : ℝ) : EReal)
  · refine ⟨1 / 2 * (x + y), y, 2 * a + 1, ?_, ?_, h.right fun c => (hc c _ h0 (h.mid_lt (hs' c))).mp hd⟩
    · show k0_pay20 E N st.1 st.2 (ix2 r (0 : Fin 1)) = _
      rw [pay20_at, hx, hy, half_mid, if_pos hd]
    · show k0_pay21 E N st.1 st.2 (ix2 r (0 : Fin 1)) = _
      rw [pay21_at, hx, hy, half_mid, if_pos hd]
  · refine ⟨x, 1 / 2 * (x + y), 2 * a, ?_, ?_, h.left fun c => not_lt.mp fun hl => hd ((hc c _ h0 (h.mid_lt (hs' c))).mpr hl)⟩
    · show k0_pay20 E N st.1 st.2 (ix2 r (0 : Fin 1)) = _
      rw [pay20_at, hx, hy, half_mid, if_neg hd]
    · show k0_pay21 E N st.1 st.2 (ix2 r (0 : Fin 1)) = _
      rw [pay21_at, hx, hy, half_mid, if_neg hd]

/-- The interval the bisection starts from. -/
theorem At.start {s κ : ℝ} {cond : Prop} {r : Fin 16} {A B : FVec Ideal S16x1 .f32} (hκ : cond → κ ≤ s) (hA : A (ix2 r (0 : Fin 1)) = ((0 : ℝ) : EReal))
    (hB : B (ix2 r (0 : Fin 1)) = (s : EReal)) : At s κ cond 0 r (A, B) := ⟨0, s, 0, hA, hB, Cell.start s κ cond hκ⟩

theorem trips_eq : k0_t1_loop.trips = 24 := by decide

/-- The cell the bisection ends in. -/
theorem bis_at {s κ : ℝ} {cond : Prop} {r : Fin 16} (hs : 0 ≤ s) (hs' : cond → 0 < s) (hκ : cond → κ ≤ s) (htop : k0_pay17 E (ix2 r (0 : Fin 1)) = (s : EReal))
    (hc : cond → ∀ x : ℝ, 0 ≤ x → x < s → (need N r ≤ count E r (x : EReal) ↔ x < κ)) : At s κ cond 24 r (bis E N) := by
  have key : ∀ (l : List (Fin k0_t1_loop.trips)) (n : ℕ) (st : FVec Ideal S16x1 .f32 × FVec Ideal S16x1 .f32), At s κ cond n r st →
      At s κ cond (n + l.length) r (l.foldl (fun a _ => (k0_pay20 E N a.1 a.2, k0_pay21 E N a.1 a.2)) st) := by
    intro l
    induction l with
    | nil => exact fun n st h => h
    | cons b l ih =>
      intro n st h
      rw [List.length_cons, show n + (l.length + 1) = (n + 1) + l.length by ring]
      exact ih (n + 1) _ (h.halve E N hs hs' hc)
  have h0 : k0_pay16 (F := Ideal) (ix2 r (0 : Fin 1)) = ((0 : ℝ) : EReal) := by
    rw [EReal.coe_zero]
    pointwise [k0_pay16]
  have h := key (List.finRange k0_t1_loop.trips) 0 (k0_pay16 (F := Ideal), k0_pay17 E)
    (At.start hκ h0 htop)
  rw [List.length_finRange, trips_eq, zero_add] at h
  unfold bis
  rw [Scf.fold_eq]
  exact h

variable (m : (ℓ : Loc nD τ sig) → Buf (Elt Ideal) ℓ) (c : Dev nD)
open Cert.KernelIdeal.Run Cert.KernelIdeal.Fetch

variable {m c}

theorem entF_at (h : Good (argP m c) (argG m c)) (r : Fin 16) (x : Fin 9216) :
    entF m c (ix2 r x) = (((if hn : x.val < 8732 then neg (argP m c) (argG m c) r ⟨x.val, hn⟩ else 0) : ℝ) : EReal) :=
  Cert.ReferenceIdeal.Ref.kept_at h r x.val

/-- The count and the sum of a row's values above a threshold from 0 up. -/
theorem count_at (h : Good (argP m c) (argG m c)) (r : Fin 16) (t : ℝ) (ht : 0 ≤ t) :
    count (entF m c) r (t : EReal) = ((cnt (neg (argP m c) (argG m c) r) t : ℝ) : EReal) := by
  have e : ∀ x : Fin 9216, FloatOps.sitofp (F := Ideal) FTy.f32 (BitVec.setWidth 32 (BitVec.ofBool (decide ((t : EReal) < entF m c (ix2 r x)))))
      = (((if hn : x.val < 8732 then (if t < neg (argP m c) (argG m c) r ⟨x.val, hn⟩ then 1 else 0) else 0) : ℝ) : EReal) := fun x => by
    rw [entF_at h]
    simp only [EReal.coe_lt_coe_iff]
    split_ifs with h1 h2
    · rw [show (decide (t < neg (argP m c) (argG m c) r ⟨x.val, h1⟩)) = true from decide_eq_true h2]
      show (((BitVec.setWidth 32 (BitVec.ofBool true)).toInt : ℝ) : EReal) = _
      rw [show (BitVec.setWidth 32 (BitVec.ofBool true)).toInt = 1 by decide, Int.cast_one]
    · rw [show (decide (t < neg (argP m c) (argG m c) r ⟨x.val, h1⟩)) = false from decide_eq_false h2]
      show (((BitVec.setWidth 32 (BitVec.ofBool false)).toInt : ℝ) : EReal) = _
      rw [show (BitVec.setWidth 32 (BitVec.ofBool false)).toInt = 0 by decide, Int.cast_zero]
    · rw [show (decide (t < 0)) = false from decide_eq_false (not_lt.mpr ht)]
      show (((BitVec.setWidth 32 (BitVec.ofBool false)).toInt : ℝ) : EReal) = _
      rw [show (BitVec.setWidth 32 (BitVec.ofBool false)).toInt = 0 by decide, Int.cast_zero]
  unfold count cnt
  rw [Finset.sum_congr rfl fun x _ => e x, ← coe_sum,
    ← Finset.sum_range (fun x => if hn : x < 8732 then (if t < neg (argP m c) (argG m c) r ⟨x, hn⟩ then (1 : ℝ) else 0) else 0),
    sum_pad _ fun n hn => dif_neg (by omega)]
  simp only [Fin.is_lt, dif_pos, Fin.eta]
  rw [← Finset.sum_filter, Finset.sum_const, nsmul_eq_mul, mul_one]

theorem above_at (h : Good (argP m c) (argG m c)) (r : Fin 16) (t : ℝ) :
    above (entF m c) r (t : EReal) = ((∑ n, if t < neg (argP m c) (argG m c) r n then neg (argP m c) (argG m c) r n else 0 : ℝ) : EReal) := by
  have e : ∀ x : Fin 9216, (if (t : EReal) < entF m c (ix2 r x) then entF m c (ix2 r x) else 0)
      = (((if hn : x.val < 8732 then (if t < neg (argP m c) (argG m c) r ⟨x.val, hn⟩ then neg (argP m c) (argG m c) r ⟨x.val, hn⟩ else 0) else 0) : ℝ) : EReal) := fun x => by
    rw [entF_at h]
    simp only [EReal.coe_lt_coe_iff]
    split_ifs <;> rfl
  unfold above
  rw [Finset.sum_congr rfl fun x _ => e x, ← coe_sum,
    ← Finset.sum_range (fun x => if hn : x < 8732 then (if t < neg (argP m c) (argG m c) r ⟨x, hn⟩ then neg (argP m c) (argG m c) r ⟨x, hn⟩ else (0 : ℝ)) else 0),
    sum_pad _ fun n hn => dif_neg (by omega)]
  simp only [Fin.is_lt, dif_pos, Fin.eta]

/-- The bisection starts at the row's greatest value. -/
theorem top_at (h : Good (argP m c) (argG m c)) (r : Fin 16) (s : ℝ) (hle : ∀ n, neg (argP m c) (argG m c) r n ≤ s) (hs : ∃ n, neg (argP m c) (argG m c) r n = s) :
    k0_pay17 (entF m c) (ix2 r (0 : Fin 1)) = (s : EReal) := by
  have e : k0_pay17 (entF m c) (ix2 r (0 : Fin 1)) = Finset.fold max (Ideal.ofBits FTy.f32 4286578688#32) (fun x => entF m c (ix2 r x)) Finset.univ := by
    pointwise [k0_pay17]
  obtain ⟨n, hn⟩ := hs
  have hb : Ideal.ofBits FTy.f32 4286578688#32 = ⊥ := by simp [Ideal.ofBits, Ideal.ieee]
  rw [e, hb]
  refine le_antisymm ((Finset.fold_max_le _).mpr ⟨bot_le, fun x _ => ?_⟩) ((Finset.le_fold_max _).mpr (.inr ⟨⟨n.val, by omega⟩, Finset.mem_univ _, ?_⟩))
  · rw [entF_at h, EReal.coe_le_coe_iff]
    split_ifs
    · exact hle _
    · rw [← hn]; exact Cert.ReferenceIdeal.Ref.neg_nonneg' h r n
  · rw [entF_at h, EReal.coe_le_coe_iff, dif_pos n.isLt]
    exact hn.ge

end Cert.Mining

end
-- ==== Proof.Mask.lean ====
/-
  Where the confidence loss and the total are claimed, unpacked: no true class's probability above the upper clip, and
  in every row either nothing to mine or a threshold that parts the values kept from the others.
-/
module

public import proofs.«01_k».proof.Proof.Gen.On_threshold_exact
public import proofs.«01_k».proof.Proof.Ent
public import Idealize.ShloMosaic.Lib.ReduceAll

@[expose] public section

set_option maxRecDepth 16384

noncomputable section

namespace Cert.ReferenceIdeal.Ref

open Cert.ReferenceIdeal Cert.ReferenceIdeal.Gen Cert.ReferenceIdeal.Facts Cert.Cells
open Idealize.ShloMosaic Idealize.ShloMosaic.Tactic

variable (p g : FVec Ideal S16x8732x85 .f32)

/-- A scalar constant at every row. -/
def fill1 (w : BitVec 32) : FVec Ideal S16 .f32 := broadcastInDim S16 ![] bcast_S_S16 (constant S_ .f32 w)
/-- Which classes' own probability lies at or below the upper clip. -/
def underV : IVec S16x8732x81 1 := cmpf .ole (select (cmpf .ogt (cls g) (fill3 0x3F000000#32)) (cls p) (subf (fill3 0x3F800000#32) (cls p))) (fill3 0x3F7FFFFE#32)
/-- A row's greatest entropy among its negatives. -/
def topV : FVec Ideal S16 .f32 := Host.reduce FloatOps.maximumf (negV p g) (constant S_ .f32 0xFF800000#32) reducesTo_S16x8732_S16_d1 h_S_
/-- The least entropy kept. -/
def kthV : FVec Ideal S16 .f32 :=
  Host.reduce FloatOps.minimumf (select (keepV g) (descV p g) (broadcastInDim S16x8732 ![0, 1] bcast_S16x1_S16x8732_0_1 (broadcastInDim S16x1 ![0] bcast_S16_S16x1_0 (topV p g))))
    (constant S_ .f32 0x7F800000#32) reducesTo_S16x8732_S16_d1 h_S_
/-- The greatest entropy not kept. -/
def nextV : FVec Ideal S16 .f32 :=
  Host.reduce FloatOps.maximumf (select (keepV g) (fill 0x00000000#32) (descV p g)) (constant S_ .f32 0xFF800000#32) reducesTo_S16x8732_S16_d1 h_S_
/-- The threshold 24 halvings reach. -/
def thrV : FVec Ideal S16 .f32 :=
  mulf (mulf (addf (maximumf (subf (Host.ceil (Host.divf (mulf (kthV p g) (fill1 0x4B800000#32)) (topV p g))) (fill1 0x3F800000#32)) (fill1 0x00000000#32)) (fill1 0x3F000000#32)) (topV p g))
    (fill1 0x33800000#32)
/-- Which rows' threshold parts the values kept from the others. -/
def partV : IVec S16 1 :=
  ori (andi (andi (andi (cmpi .sge (hardV g) (broadcastInDim S16 ![] bcast_S_S16 (constantI S_ 32 1#32))) (cmpi .sle (hardV g) (broadcastInDim S16 ![] bcast_S_S16 (constantI S_ 32 8732#32))))
    (cmpf .ole (nextV p g) (thrV p g))) (cmpf .ole (thrV p g) (kthV p g))) (cmpf .oeq (topV p g) (fill1 0x00000000#32))

/-- The mask: both of these throughout. -/
theorem mask_eq : (Cert.On_threshold_exact.fn (F := Ideal) p g).1
    = andi (Host.reduce IntOp.andi (underV p g) (constantI S_ 1 1#1) Cert.On_threshold_exact.Gen.reducesTo_S16x8732x81_S_d0_1_2 h_S_)
      (Host.reduce IntOp.andi (partV p g) (constantI S_ 1 1#1) Cert.On_threshold_exact.Gen.reducesTo_S16_S_d0 h_S_) := rfl

theorem mask_eq' : (Cert.On_threshold_exact.fn (F := Ideal) p g).2.1 = (Cert.On_threshold_exact.fn (F := Ideal) p g).1 := rfl

theorem and_one (a b : BitVec 1) (h : IntOp.andi a b = 1#1) : a = 1#1 ∧ b = 1#1 := by revert a b; decide
theorem or_one (a b : BitVec 1) (h : IntOp.ori a b = 1#1) : a = 1#1 ∨ b = 1#1 := by revert a b; decide

variable {p g}

/-- The mask holds. -/
theorem of_mask (i : S_.Idx) (h : (Cert.On_threshold_exact.fn (F := Ideal) p g).1 i = 1#1) : (∀ j, underV p g j = 1#1) ∧ ∀ j, partV p g j = 1#1 := by
  rw [mask_eq] at h
  obtain ⟨h1, h2⟩ := and_one _ _ h
  haveI : Subsingleton S_.Idx := ⟨fun a b => funext fun k => k.elim0⟩
  exact ⟨fun j => Host.reduce_andi_all _ _ _ _ i h1 j, fun j => Host.reduce_andi_all _ _ _ _ i h2 j⟩

/-- A class's own probability lies at or below the upper clip. -/
theorem unclipped_of (h : ∀ j, underV p g j = 1#1) (r : Fin 16) (n : Fin 8732) : Unclipped p g r n := fun x => by
  have e := h (ix3 r n x)
  have : underV p g (ix3 r n x) = BitVec.ofBool (decide (own p g r n x ≤ Ideal.ofBits .f32 1065353214#32)) := by
    pointwise [underV, cls, fill3, ofBits_half]
    rfl
  rw [this, ofBool_one, decide_eq_true_eq] at e
  exact e

/-- A comparison of small counts, as words. -/
theorem toInt_ofNat (a : ℕ) (ha : a < 2 ^ 31) : (BitVec.ofNat 32 a).toInt = a := by
  rw [BitVec.toInt_eq_toNat_of_lt (by simp; omega), BitVec.toNat_ofNat, Nat.mod_eq_of_lt (by omega)]
theorem slt_ofNat (a b : ℕ) (ha : a < 2 ^ 31) (hb : b < 2 ^ 31) : IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_ofNat a ha, toInt_ofNat b hb]
  simp only [Nat.cast_lt]
theorem sle_ofNat (a b : ℕ) (ha : a < 2 ^ 31) (hb : b < 2 ^ 31) : IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [toInt_ofNat a ha, toInt_ofNat b hb]
  simp only [Nat.cast_le]
theorem sge_ofNat (a b : ℕ) (ha : a < 2 ^ 31) (hb : b < 2 ^ 31) : IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [toInt_ofNat a ha, toInt_ofNat b hb]
  simp only [Nat.cast_le]

/-- How many hard negatives a row keeps, as a word. -/
theorem hard_at (h : Good p g) (r : Fin 16) : IntOp.muli (nposV g (ix1 r)) 3#32 = BitVec.ofNat 32 (npos g r * 3) := by
  rw [nposV_at h]
  exact (BitVec.ofNat_mul _ _).symm

/-- The first so many places are kept. -/
theorem select_keepV {α : Type} (h : Good p g) (r : Fin 16) (n : Fin 8732) (a b : α) :
    Scalar.select (keepV g (ix2 r n)) a b = if n.val < npos g r * 3 then a else b := by
  have : keepV g (ix2 r n) = IntOp.cmpi .slt (BitVec.ofNat 32 n.val) (IntOp.muli (nposV g (ix1 r)) 3#32) := by pointwise [keepV, hardV]
  have := npos_le g r
  rw [‹keepV g (ix2 r n) = _›, hard_at h, slt_ofNat _ _ (by omega) (by omega)]
  by_cases hk : n.val < npos g r * 3 <;> simp [hk, Scalar.select]

/-- A row of the mask: nothing to mine, or a threshold that parts. -/
theorem partV_at (h : Good p g) (r : Fin 16) (e : partV p g (ix1 r) = 1#1) : topV p g (ix1 r) = 0
    ∨ (1 ≤ npos g r * 3 ∧ npos g r * 3 ≤ 8732 ∧ nextV p g (ix1 r) ≤ thrV p g (ix1 r) ∧ thrV p g (ix1 r) ≤ kthV p g (ix1 r)) := by
  have e0 : partV p g (ix1 r) = IntOp.ori (IntOp.andi (IntOp.andi (IntOp.andi (IntOp.cmpi CmpIPredicate.sge (IntOp.muli (nposV g (ix1 r)) 3#32) 1#32)
      (IntOp.cmpi CmpIPredicate.sle (IntOp.muli (nposV g (ix1 r)) 3#32) 8732#32)) (BitVec.ofBool (decide (nextV p g (ix1 r) ≤ thrV p g (ix1 r)))))
      (BitVec.ofBool (decide (thrV p g (ix1 r) ≤ kthV p g (ix1 r))))) (BitVec.ofBool (decide (topV p g (ix1 r) = 0))) := by
    pointwise [partV, fill1, hardV]
  have := npos_le g r
  rw [e0, hard_at h, sge_ofNat _ 1 (by omega) (by omega), sle_ofNat _ 8732 (by omega) (by omega), andi_ofBool, andi_ofBool, andi_ofBool, ori_ofBool, ofBool_one] at e
  simp only [Bool.or_eq_true, Bool.and_eq_true, decide_eq_true_eq] at e
  rcases e with ⟨⟨⟨h1, h2⟩, h3⟩, h4⟩ | h5
  · exact .inr ⟨h1, h2, h3, h4⟩
  · exact .inl h5

theorem ofBits_bot : Ideal.ofBits .f32 4286578688#32 = ⊥ := by simp [Ideal.ofBits, Ideal.ieee]
theorem ofBits_top : Ideal.ofBits .f32 2139095040#32 = ⊤ := by simp [Ideal.ofBits, Ideal.ieee]

/-- The greatest of finitely many reals, and the least. -/
theorem fold_max_coe {ι : Type} [Fintype ι] (f : ι → EReal) (s : EReal) (hle : ∀ n, f n ≤ s) (hs : ∃ n, f n = s) :
    Finset.fold max (Ideal.ofBits .f32 4286578688#32) f Finset.univ = s := by
  obtain ⟨n, hn⟩ := hs
  rw [ofBits_bot]
  exact le_antisymm ((Finset.fold_max_le _).mpr ⟨bot_le, fun x _ => hle x⟩) ((Finset.le_fold_max _).mpr (.inr ⟨n, Finset.mem_univ _, hn.ge⟩))
theorem fold_min_coe {ι : Type} [Fintype ι] (f : ι → EReal) (s : EReal) (hle : ∀ n, s ≤ f n) (hs : ∃ n, f n = s) :
    Finset.fold min (Ideal.ofBits .f32 2139095040#32) f Finset.univ = s := by
  obtain ⟨n, hn⟩ := hs
  rw [ofBits_top]
  exact le_antisymm ((Finset.fold_min_le _).mpr (.inr ⟨n, Finset.mem_univ _, hn.le⟩)) ((Finset.le_fold_min _).mpr ⟨le_top, fun x _ => hle x⟩)

theorem topV_at (r : Fin 16) (s : EReal) (hle : ∀ n, negV p g (ix2 r n) ≤ s) (hs : ∃ n, negV p g (ix2 r n) = s) : topV p g (ix1 r) = s := by
  rw [← fold_max_coe (fun x => negV p g (ix2 r x)) s hle hs]
  pointwise [topV]

/-- The least value kept, of a falling order. -/
theorem kthV_at (h : Good p g) (r : Fin 16) (hle : ∀ n, descV p g (ix2 r n) ≤ topV p g (ix1 r)) (hd : ∀ i j : Fin 8732, i ≤ j → descV p g (ix2 r j) ≤ descV p g (ix2 r i))
    (h1 : 1 ≤ npos g r * 3) (hk : npos g r * 3 - 1 < 8732) : kthV p g (ix1 r) = descV p g (ix2 r (⟨npos g r * 3 - 1, hk⟩ : Fin 8732)) := by
  have e : kthV p g (ix1 r) = Finset.fold min (Ideal.ofBits FTy.f32 2139095040#32)
      (fun x => Scalar.select (keepV g (ix2 r x)) (descV p g (ix2 r x)) (topV p g (ix1 r))) Finset.univ := by pointwise [kthV]
  rw [e]
  simp only [select_keepV h]
  refine fold_min_coe _ _ (fun n => ?_) ⟨⟨npos g r * 3 - 1, hk⟩, if_pos (by simp only; omega)⟩
  split_ifs with hn
  · exact hd _ _ (Fin.le_def.mpr (by simp only; omega))
  · exact hle _

/-- No value that is not kept exceeds the greatest of those. -/
theorem le_nextV (h : Good p g) (r : Fin 16) (n : Fin 8732) (hn : ¬ n.val < npos g r * 3) : descV p g (ix2 r n) ≤ nextV p g (ix1 r) := by
  have e : nextV p g (ix1 r) = Finset.fold max (Ideal.ofBits FTy.f32 4286578688#32)
      (fun x => Scalar.select (keepV g (ix2 r x)) 0 (descV p g (ix2 r x))) Finset.univ := by pointwise [nextV, fill]
  rw [e]
  simp only [select_keepV h]
  exact (Finset.le_fold_max _).mpr (.inr ⟨n, Finset.mem_univ _, by rw [if_neg hn]⟩)

/-- The threshold, over the reals. -/
theorem thrV_at (r : Fin 16) (s κ : ℝ) (hs : s ≠ 0) (ht : topV p g (ix1 r) = (s : EReal)) (hk : kthV p g (ix1 r) = (κ : EReal)) :
    thrV p g (ix1 r) = (((max ((⌈κ * 2 ^ 24 / s⌉ : ℝ) - 1) 0 + 1 / 2) * s / 2 ^ 24 : ℝ) : EReal) := by
  have e : thrV p g (ix1 r) = (max (Ideal.liftRound Int.ceil (Ideal.div (kthV p g (ix1 r) * Ideal.ofBits FTy.f32 1266679808#32) (topV p g (ix1 r))) - 1) 0 + half)
      * topV p g (ix1 r) * Ideal.ofBits FTy.f32 864026624#32 := by pointwise [thrV, fill1, ofBits_half]
  have h1 : Ideal.ofBits FTy.f32 1266679808#32 = ((2 ^ 24 : ℝ) : EReal) := by
    simp [Ideal.ofBits, Ideal.ieee, -EReal.coe_mul, -EReal.coe_pow]
    norm_num
  have h2 : Ideal.ofBits FTy.f32 864026624#32 = ((1 / 2 ^ 24 : ℝ) : EReal) := by
    simp [Ideal.ofBits, Ideal.ieee, -EReal.coe_mul, -EReal.coe_pow]
    norm_num
  have h3 : Ideal.div ((κ * 2 ^ 24 : ℝ) : EReal) (s : EReal) = ((κ * 2 ^ 24 / s : ℝ) : EReal) := by
    unfold Ideal.div
    rw [if_neg (by exact_mod_cast hs), div_eq_mul_inv (κ * 2 ^ 24)]
    simp only [EReal.coe_mul, EReal.coe_inv]
  rw [e, ht, hk, h1, h2, ← EReal.coe_mul, h3, Ideal.liftRound_coe, half_eq, ← EReal.coe_one, ← EReal.coe_zero, ← EReal.coe_sub, ← coe_max, ← EReal.coe_add, ← EReal.coe_mul, ← EReal.coe_mul]
  rw [EReal.coe_eq_coe_iff, one_div (2 ^ 24 : ℝ), ← div_eq_mul_inv]

end Cert.ReferenceIdeal.Ref

end
-- ==== Proof.Sort.lean ====
/-
  The reference's sort: each row of the falling order is that row of the entropies, rearranged, and falls.
-/
module

public import proofs.«01_k».proof.Proof.RefAt
public import Idealize.ShloMosaic.Lib.SortFacts

@[expose] public section

set_option maxRecDepth 16384

noncomputable section

namespace Cert.ReferenceIdeal.Ref

open Cert.ReferenceIdeal Cert.ReferenceIdeal.Gen Cert.Cells
open Idealize.ShloMosaic Idealize.ShloMosaic.Tactic

/-- The sort's comparison is the order of the extended reals. -/
theorem before_iff (l r : EReal) : comparator_f32_d1 (F := Ideal) l r = BitVec.ofBool (decide (l < r)) := by
  have a : ∀ x : EReal, Scalar.select (FloatOps.cmpf (F := Ideal) (φ := .f32) CmpFPredicate.une x x) (FloatOps.ofBits (F := Ideal) FTy.f32 2143289344#32)
      (Scalar.select (FloatOps.cmpf (F := Ideal) (φ := .f32) CmpFPredicate.oeq x (FloatOps.ofBits (F := Ideal) FTy.f32 0#32)) (FloatOps.ofBits (F := Ideal) FTy.f32 0#32) x) = x := fun x => by
    have h0 : FloatOps.ofBits (F := Ideal) FTy.f32 0#32 = (0 : EReal) := by
      show Ideal.ofBits .f32 0#32 = 0
      simp [Ideal.ofBits, Ideal.ieee]
    have h1 : FloatOps.cmpf (F := Ideal) (φ := .f32) CmpFPredicate.une x x = 0#1 := by
      show BitVec.ofBool (decide (x ≠ x)) = 0#1
      simp
    have h2 : FloatOps.cmpf (F := Ideal) (φ := .f32) CmpFPredicate.oeq x (0 : EReal) = BitVec.ofBool (decide (x = 0)) := rfl
    rw [h1, h0, h2]
    by_cases hx : x = 0 <;> simp [hx, Scalar.select]
  show FloatOps.cmpfTotal (F := Ideal) (φ := .f32) CmpDirection.lt _ _ = _
  rw [a, a]
  rfl

/-- A stable sort along the rows, at an index. -/
theorem sort_row {a b : ℕ} {α : Type} (cmp : α → α → BitVec 1) (x : (⟨2, ![a, b]⟩ : Shape).Idx → α) (r : Fin a) (n : Fin b) :
    Host.sort ⟨2, ![a, b]⟩ 1 cmp x (ix2 r n) = x (ix2 r (sortedFrom (fun k k' => cmp (x (ix2 r k)) (x (ix2 r k')) == 1#1) n)) := by
  have key : ∀ al : Fin b → (⟨2, ![a, b]⟩ : Shape).Idx, (∀ k, al k = ix2 r k) →
      x (al (sortedFrom (fun k k' => cmp (x (al k)) (x (al k')) == 1#1) n)) = x (ix2 r (sortedFrom (fun k k' => cmp (x (ix2 r k)) (x (ix2 r k')) == 1#1) n)) :=
    fun al h => by simp only [h]
  exact key (fun k => (ix2 r n : (⟨2, ![a, b]⟩ : Shape).Idx).along (1 : Fin 2) k) fun k => by
    funext c
    fin_cases c <;> rfl

/-- A row sorted by its values' opposites: a rearrangement that makes it fall. -/
theorem falls {b : ℕ} (f : Fin b → EReal) (bef : Fin b → Fin b → Bool) (hb : ∀ k k', bef k k' = decide (f k' < f k)) :
    ∃ σ : Equiv.Perm (Fin b), (∀ n, σ n = sortedFrom bef n) ∧ ∀ i j : Fin b, i ≤ j → f (σ j) ≤ f (σ i) := by
  refine ⟨Equiv.ofBijective _ ⟨sortedFrom_injective bef, sortedFrom_surjective bef⟩, fun _ => rfl, fun i j hij => ?_⟩
  rcases eq_or_lt_of_le hij with rfl | hlt
  · exact le_rfl
  · have := sortedFrom_noInversion bef bef ?_ (fun _ _ h => h) ?_ i j hlt
    · rw [hb, decide_eq_false_iff_not, not_lt] at this
      exact this
    · intro a b h
      rw [hb] at h ⊢
      rw [decide_eq_true_eq] at h
      exact decide_eq_false_iff_not.mpr (not_lt.mpr h.le)
    · intro a b c h1 h2
      rw [hb, decide_eq_false_iff_not, not_lt] at h1 h2 ⊢
      exact h1.trans h2

/-- A row of an array put in falling order. -/
theorem falling_row (X : FVec Ideal S16x8732 .f32) (r : Fin 16) : ∃ σ : Equiv.Perm (Fin 8732),
    (∀ n, Host.negf (Host.sort S16x8732 1 comparator_f32_d1 (Host.negf X)) (ix2 r n) = X (ix2 r (σ n)))
    ∧ ∀ i j : Fin 8732, i ≤ j → X (ix2 r (σ j)) ≤ X (ix2 r (σ i)) := by
  obtain ⟨σ, hσ, hf⟩ := falls (fun k => X (ix2 r k))
    (fun k k' => comparator_f32_d1 (F := Ideal) (Host.negf X (ix2 r k)) (Host.negf X (ix2 r k')) == 1#1) fun k k' => by
      rw [show Host.negf X (ix2 r k) = -(X (ix2 r k)) from rfl, show Host.negf X (ix2 r k') = -(X (ix2 r k')) from rfl, before_iff]
      simp only [EReal.neg_lt_neg_iff]
      by_cases h : X (ix2 r k') < X (ix2 r k) <;> simp [h]
  refine ⟨σ, fun n => ?_, hf⟩
  have h1 : Host.negf (Host.sort S16x8732 1 comparator_f32_d1 (Host.negf X)) (ix2 r n) = -Host.sort S16x8732 1 comparator_f32_d1 (Host.negf X) (ix2 r n) := rfl
  rw [h1, sort_row, ← hσ, show Host.negf X (ix2 r (σ n)) = -(X (ix2 r (σ n))) from rfl, neg_neg]

/-- A row of the reference's falling order. -/
theorem descV_row (p g : FVec Ideal S16x8732x85 .f32) (r : Fin 16) : ∃ σ : Equiv.Perm (Fin 8732), (∀ n, descV p g (ix2 r n) = negV p g (ix2 r (σ n)))
    ∧ ∀ i j : Fin 8732, i ≤ j → descV p g (ix2 r j) ≤ descV p g (ix2 r i) := by
  obtain ⟨σ, hrow, hf⟩ := falling_row (negV p g) r
  have hrow : ∀ n, descV p g (ix2 r n) = negV p g (ix2 r (σ n)) := hrow
  exact ⟨σ, hrow, fun i j hij => by rw [hrow, hrow]; exact hf i j hij⟩

end Cert.ReferenceIdeal.Ref

end
-- ==== Proof.Equation.lean ====
/-
  The confidence loss and the total: the kernel's are the reference's where the mask holds.
-/
module

public import proofs.«01_k».proof.Proof.Mining
public import proofs.«01_k».proof.Proof.Mask
public import proofs.«01_k».proof.Proof.Sort

@[expose] public section

set_option maxRecDepth 16384

noncomputable section

namespace Cert.Equation

open Cert.KernelIdeal Cert.KernelIdeal.Gen Cert.KernelIdeal.Body Cert.KernelIdeal.Run Cert.KernelIdeal.Fetch Cert.Cells Cert.Halving Cert.Mining
open Cert.ReferenceIdeal.Ref (neg negV descV entV Unclipped partV topV kthV nextV thrV keepV lossPos lossNeg lossConf lossLoc lossAll totV)
open Idealize.ShloMosaic Idealize.ShloMosaic.Tactic

/-- A rearrangement changes neither the count nor the sum of the values above a threshold. -/
theorem cnt_perm {n : ℕ} (f : Fin n → ℝ) (σ : Equiv.Perm (Fin n)) (t : ℝ) : cnt (fun i => f (σ i)) t = cnt f t := by
  unfold cnt
  rw [Finset.card_filter, Finset.card_filter]
  exact Equiv.sum_comp σ fun i => if t < f i then 1 else 0

variable {m : (ℓ : Loc nD τ sig) → Buf (Elt Ideal) ℓ} {c : Dev nD}

/-- What the kernel's last formula makes of a row is the sum of the entropies the reference keeps. -/
theorem row_eq (h : Good (argP m c) (argG m c)) (r : Fin 16) (hu : ∀ n, Unclipped (argP m c) (argG m c) r n) (hp : partV (argP m c) (argG m c) (ix1 r) = 1#1)
    (M : EReal) (hM : M = half * ((bis (entF m c) (rowF m c fun _ _ => 1)).1 (ix2 r (0 : Fin 1)) + (bis (entF m c) (rowF m c fun _ _ => 1)).2 (ix2 r (0 : Fin 1)))) :
    above (entF m c) r M + (need (rowF m c fun _ _ => 1) r - count (entF m c) r M) * M
      = ∑ n : Fin 8732, if n.val < npos (argG m c) r * 3 then descV (argP m c) (argG m c) (ix2 r n) else 0 := by
  obtain ⟨σ, hσ, hdesc⟩ := Cert.ReferenceIdeal.Ref.descV_row (argP m c) (argG m c) r
  have hneg : ∀ n, negV (argP m c) (argG m c) (ix2 r n) = ((neg (argP m c) (argG m c) r n : ℝ) : EReal) := fun n => Cert.ReferenceIdeal.Ref.negV_at h r n (hu n)
  have hneed : need (rowF m c fun _ _ => 1) r = (((npos (argG m c) r * 3 : ℕ) : ℝ) : EReal) := by
    rw [need_at, show rowF m c (fun _ _ => 1) (ix2 r (0 : Fin 1)) = acc (argG m c) (fun _ _ => 1) 9 r from rfl, acc_one, ← EReal.coe_mul]
    congr 1
    push_cast
    ring
  have h0 := fun n => Cert.ReferenceIdeal.Ref.neg_nonneg' h r n
  generalize hf : neg (argP m c) (argG m c) r = f at hneg h0
  have hd : ∀ n, descV (argP m c) (argG m c) (ix2 r n) = ((f (σ n) : ℝ) : EReal) := fun n => (hσ n).trans (hneg _)
  have hanti : Antitone fun n => f (σ n) := fun i j hij => by
    have := hdesc i j hij
    rw [hd, hd, EReal.coe_le_coe_iff] at this
    exact this
  obtain ⟨z, hz⟩ : ∃ z : Fin 8732, z.val = 0 := ⟨⟨0, by norm_num⟩, rfl⟩
  have hle : ∀ n, f n ≤ f (σ z) := fun n => by
    have := hanti (show z ≤ σ.symm n from Fin.le_def.mpr (by omega))
    simpa using this
  have hT : topV (argP m c) (argG m c) (ix1 r) = ((f (σ z) : ℝ) : EReal) :=
    Cert.ReferenceIdeal.Ref.topV_at r _ (fun n => by rw [hneg, EReal.coe_le_coe_iff]; exact hle n) ⟨σ z, hneg _⟩
  have hK := top_at h r (f (σ z)) (by rw [hf]; exact hle) ⟨σ z, by rw [hf]⟩
  simp only [hd]
  by_cases hs : f (σ z) = 0
  · obtain ⟨x, y, a, hx, hy, hc⟩ := bis_at (κ := 0) (cond := False) (entF m c) (rowF m c fun _ _ => 1) (h0 (σ z)) (fun h => h.elim) (fun h => h.elim) hK (fun h => h.elim)
    rw [hs] at hc
    have hz0 : ∀ n, f n = 0 := fun n => le_antisymm (hs ▸ hle n) (h0 n)
    rw [hx, hy, half_mid, hc.mid_zero] at hM
    rw [hM, EReal.coe_zero, mul_zero, add_zero, ← EReal.coe_zero, above_at h, hf]
    simp only [hz0, ite_self, Finset.sum_const_zero, EReal.coe_zero]
  · obtain ⟨h1, h2, h3, h4⟩ := (Cert.ReferenceIdeal.Ref.partV_at h r hp).resolve_left fun e => hs (by rw [hT] at e; exact_mod_cast e)
    have hk : npos (argG m c) r * 3 - 1 < 8732 := by omega
    have hkth := Cert.ReferenceIdeal.Ref.kthV_at h r (fun n => by rw [hd, hT, EReal.coe_le_coe_iff]; exact hle _) hdesc h1 hk
    rw [hd] at hkth
    have hcnt : True → ∀ x : ℝ, 0 ≤ x → x < f (σ z) → (need (rowF m c fun _ _ => 1) r ≤ count (entF m c) r (x : EReal) ↔ x < f (σ ⟨npos (argG m c) r * 3 - 1, hk⟩)) := fun _ x hx _ => by
      rw [hneed, count_at h r x hx, hf, EReal.coe_le_coe_iff, Nat.cast_le, ← cnt_perm f σ]
      exact le_cnt hanti _ h1 hk x
    have hpos : 0 < f (σ z) := lt_of_le_of_ne (h0 _) (Ne.symm hs)
    obtain ⟨x, y, a, hx, hy, hc⟩ := bis_at (entF m c) (rowF m c fun _ _ => 1) (h0 (σ z)) (fun _ => hpos) (fun _ => hle _) hK hcnt
    have hm := hc.mid_eq hpos (h0 _) trivial
    have ht0 := hc.mid_nonneg hpos.le
    rw [hx, hy, half_mid] at hM
    have hthr := Cert.ReferenceIdeal.Ref.thrV_at r _ _ hs hT hkth
    rw [← hm] at hthr
    generalize 1 / 2 * (x + y) = t at hM ht0 hthr
    rw [hthr, hkth, EReal.coe_le_coe_iff] at h4
    rw [hM, above_at h, count_at h r t ht0, hneed, hf, ← EReal.coe_sub, ← EReal.coe_mul, ← EReal.coe_add]
    have hsum := sum_parted (d := fun n => f (σ n)) (npos (argG m c) r * 3) h2 t
      (fun i hi => h4.trans (hanti (Fin.le_def.mpr (by simp only; omega))))
      (fun i hi => by
        have := (Cert.ReferenceIdeal.Ref.le_nextV h r i hi).trans h3
        rw [hd, hthr, EReal.coe_le_coe_iff] at this
        exact this)
    rw [cnt_perm f σ, Equiv.sum_comp σ fun i => if t < f i then f i else 0] at hsum
    rw [hsum, coe_sum]
    refine Finset.sum_congr rfl fun n _ => ?_
    split_ifs <;> rfl

/-- The sum over the hard negatives. -/
theorem lossNeg_at {p g : Arr} (h : Good p g) (i : Cert.ReferenceIdeal.S_.Idx) :
    lossNeg p g i = ∑ r : Fin 16, ∑ n : Fin 8732, if n.val < npos g r * 3 then descV p g (ix2 r n) else 0 := by
  have : lossNeg p g i = ∑ r : Fin 16, ∑ n : Fin 8732, Scalar.select (keepV g (ix2 r n)) (descV p g (ix2 r n)) 0 := by
    pointwise [lossNeg, Cert.ReferenceIdeal.Ref.fill]
  rw [this]
  simp only [Cert.ReferenceIdeal.Ref.select_keepV h]

/-- The confidence losses are equal. -/
theorem conf_eq (m : (ℓ : Loc nD τ sig) → Buf (Elt Ideal) ℓ) (c : Dev nD) (h : Good (argP m c) (argG m c)) (i : Cert.ReferenceIdeal.S_.Idx)
    (hi : (Cert.On_threshold_exact.fn (F := Ideal) (argP m c) (argG m c)).2.1 i = 1#1) :
    scal (resConf m c) i = lossConf (argP m c) (argG m c) i := by
  rw [Cert.ReferenceIdeal.Ref.mask_eq'] at hi
  obtain ⟨hU, hP⟩ := Cert.ReferenceIdeal.Ref.of_mask i hi
  have hu := fun r n => Cert.ReferenceIdeal.Ref.unclipped_of hU r n
  have e : lossConf (argP m c) (argG m c) i = Ideal.div (lossPos (argP m c) (argG m c) i + lossNeg (argP m c) (argG m c) i) (totV (argG m c) i) := by
    pointwise [lossConf]
  have hA : ∑ r : Fin 16, acc (argG m c) (ent (argP m c) (argG m c)) 9 r = lossPos (argP m c) (argG m c) i := by
    rw [Cert.ReferenceIdeal.Ref.lossPos_at h]
    refine Finset.sum_congr rfl fun r _ => ?_
    rw [acc_all]
    refine Finset.sum_congr rfl fun n _ => ?_
    rw [Cert.ReferenceIdeal.Ref.entV_at h r n (hu r n)]
  have hB : k0_pay22 (entF m c) (rowF m c fun _ _ => 1) (bis (entF m c) (rowF m c fun _ _ => 1)).1 (bis (entF m c) (rowF m c fun _ _ => 1)).2
      = lossNeg (argP m c) (argG m c) i := by
    rw [lossNeg_at h, pay22_at]
    exact Finset.sum_congr rfl fun r _ => row_eq h r (hu r) (hP _) _ rfl
  rw [resConf_at, e, Cert.ReferenceIdeal.Ref.totV_at h, hA, hB]

/-- The totals are equal. -/
theorem all_eq (m : (ℓ : Loc nD τ sig) → Buf (Elt Ideal) ℓ) (c : Dev nD) (h : Good (argP m c) (argG m c)) (i : Cert.ReferenceIdeal.S_.Idx)
    (hi : (Cert.On_threshold_exact.fn (F := Ideal) (argP m c) (argG m c)).1 i = 1#1) :
    scal (resAll m c) i = lossAll (argP m c) (argG m c) i := by
  have e : lossAll (argP m c) (argG m c) i = lossConf (argP m c) (argG m c) i + lossLoc (argP m c) (argG m c) i := by
    pointwise [lossAll]
  rw [resAll_at, e, conf_eq m c h i hi, resLoc_at, Cert.ReferenceIdeal.Ref.lossLoc_at h]

end Cert.Equation

end
-- ==== Proof.Dual.lean ====
/-
  The mining's sum at any threshold, over the reals: never below the sum of the k largest values, and above it by at most
  the threshold's distance from the k-th largest for each value.
-/
module

public import proofs.«01_k».proof.Proof.Halving
public import proofs.«01_k».proof.Proof.Sort

@[expose] public section

noncomputable section

namespace Cert.Halving

variable {n : ℕ} (f d : Fin n → ℝ)

/-- What the values exceed a threshold by, and the threshold `k` times. -/
def dual (k : ℕ) (t : ℝ) : ℝ := (∑ i, max (f i - t) 0) + k * t

/-- The values above a threshold, and the threshold for each one short of `k`. -/
theorem dual_eq (k : ℕ) (t : ℝ) : (∑ i, if t < f i then f i else 0) + ((k : ℝ) - cnt f t) * t = dual f k t := by
  have h1 : ((cnt f t : ℕ) : ℝ) * t = ∑ i, if t < f i then t else 0 := by
    unfold cnt
    rw [← Finset.sum_filter, Finset.sum_const, nsmul_eq_mul]
  unfold dual
  rw [sub_mul, h1, add_sub, add_sub_right_comm, ← Finset.sum_sub_distrib]
  congr 1
  refine Finset.sum_congr rfl fun i _ => ?_
  split_ifs with h
  · rw [max_eq_left (by linarith)]
  · rw [max_eq_right (by linarith [not_lt.mp h]), sub_zero]

/-- No `k` of the values have a larger sum. -/
theorem le_dual (σ : Equiv.Perm (Fin n)) (k : ℕ) (t : ℝ) (ht : 0 ≤ t) : (∑ i : Fin n, if i.val < k then d (σ i) else 0) ≤ dual d k t := by
  have h2 : (∑ i : Fin n, if i.val < k then t else 0) ≤ k * t := by
    rw [← Finset.sum_filter, Finset.sum_const, nsmul_eq_mul, Fin.card_filter_val_lt]
    exact mul_le_mul_of_nonneg_right (by exact_mod_cast min_le_right _ _) ht
  unfold dual
  rw [← Equiv.sum_comp σ fun i => max (d i - t) 0]
  refine le_trans ?_ (add_le_add le_rfl h2)
  rw [← Finset.sum_add_distrib]
  refine Finset.sum_le_sum fun i _ => ?_
  split_ifs
  · linarith [le_max_left (d (σ i) - t) 0]
  · linarith [le_max_right (d (σ i) - t) 0]

/-- It falls by no more than the values and the threshold do. -/
theorem dual_shift (k : ℕ) (t e : ℝ) (h : ∀ i, d i ≤ f i + e) : dual d k (t + e) ≤ dual f k t + k * e := by
  unfold dual
  have : (∑ i, max (d i - (t + e)) 0) ≤ ∑ i, max (f i - t) 0 :=
    Finset.sum_le_sum fun i _ => max_le_max (by linarith [h i]) le_rfl
  linarith [mul_add (k : ℝ) t e]

/-- It changes by no more than the threshold does, for each value or each of the `k`. -/
theorem dual_near (k : ℕ) (t κ : ℝ) : dual f k t ≤ dual f k κ + (max k n : ℕ) * |t - κ| := by
  have h1 : (∑ i, max (f i - t) 0) ≤ (∑ i, max (f i - κ) 0) + n * max (κ - t) 0 := by
    have : (n : ℝ) * max (κ - t) 0 = ∑ _i : Fin n, max (κ - t) 0 := by simp
    rw [this, ← Finset.sum_add_distrib]
    refine Finset.sum_le_sum fun i _ => max_le ?_ (add_nonneg (le_max_right _ _) (le_max_right _ _))
    linarith [le_max_left (f i - κ) 0, le_max_left (κ - t) 0]
  have hk : (k : ℝ) ≤ (max k n : ℕ) := by exact_mod_cast le_max_left _ _
  have hn : (n : ℝ) ≤ (max k n : ℕ) := by exact_mod_cast le_max_right _ _
  unfold dual
  rcases le_total κ t with h | h
  · rw [max_eq_right (by linarith), mul_zero, add_zero] at h1
    rw [abs_of_nonneg (by linarith)]
    have := mul_le_mul_of_nonneg_right hk (show 0 ≤ t - κ by linarith)
    linarith [mul_sub (k : ℝ) t κ]
  · rw [max_eq_left (by linarith)] at h1
    rw [abs_of_nonpos (by linarith)]
    have h3 := mul_le_mul_of_nonneg_right hn (show 0 ≤ κ - t by linarith)
    have h4 := mul_nonneg (Nat.cast_nonneg k (α := ℝ)) (show 0 ≤ κ - t by linarith)
    have e : -(t - κ) = κ - t := by ring
    rw [e]
    linarith [mul_sub (k : ℝ) κ t]

variable {f d}

/-- At the `k`-th largest value it is the sum of the `k` largest. -/
theorem dual_kth (σ : Equiv.Perm (Fin n)) (hd : Antitone fun i => f (σ i)) (k : ℕ) (h1 : 1 ≤ k) (hk : k - 1 < n) :
    dual f k (f (σ ⟨k - 1, hk⟩)) = ∑ i : Fin n, if i.val < k then f (σ i) else 0 := by
  rw [← sum_parted k (by omega) (f (σ ⟨k - 1, hk⟩)) (fun i hi => hd (Fin.le_def.mpr (by simp only; omega))) (fun i hi => hd (Fin.le_def.mpr (by simp only; omega))),
    dual_eq]
  unfold dual
  rw [Equiv.sum_comp σ fun i => max (f i - f (σ ⟨k - 1, hk⟩)) 0]

/-- A real list in falling order. -/
theorem exists_falling (f : Fin n → ℝ) : ∃ σ : Equiv.Perm (Fin n), Antitone fun i => f (σ i) := by
  obtain ⟨σ, -, h⟩ := Cert.ReferenceIdeal.Ref.falls (fun i => (f i : EReal)) (fun i j => decide ((f j : EReal) < (f i : EReal))) fun _ _ => rfl
  exact ⟨σ, fun i j hij => EReal.coe_le_coe_iff.mp (h i j hij)⟩

/-- What the halvings of [0, s] compare with: 0 where more are asked for than there are, the greatest value where none are, the
`k`-th largest otherwise. There the mining's sum does not exceed that of the `k` largest of a greater list. -/
theorem exists_kth (h0 : ∀ i, 0 ≤ f i) (hfd : ∀ i, f i ≤ d i) (τ : Equiv.Perm (Fin n)) (hτ : Antitone fun i => d (τ i)) (k : ℕ) (s : ℝ) (hs0 : 0 ≤ s)
    (hs : ∀ i, f i ≤ s) : ∃ κ : ℝ, 0 ≤ κ ∧ κ ≤ s ∧ (∀ x : ℝ, 0 ≤ x → x < s → (k ≤ cnt f x ↔ x < κ)) ∧ dual f k κ ≤ ∑ i : Fin n, if i.val < k then d (τ i) else 0 := by
  rcases Nat.eq_zero_or_pos k with rfl | h1
  · refine ⟨s, hs0, le_rfl, fun x _ hx => ⟨fun _ => hx, fun _ => Nat.zero_le _⟩, ?_⟩
    unfold dual
    rw [Finset.sum_eq_zero fun i _ => max_eq_right (by linarith [hs i])]
    simp
  · by_cases hk : k - 1 < n
    · obtain ⟨σ, hσ⟩ := exists_falling f
      refine ⟨f (σ ⟨k - 1, hk⟩), h0 _, hs _, fun x _ _ => ?_, ?_⟩
      · have : cnt f x = cnt (fun i => f (σ i)) x := by
          unfold cnt
          rw [Finset.card_filter, Finset.card_filter]
          exact (Equiv.sum_comp σ fun i => if x < f i then 1 else 0).symm
        rw [this]
        exact le_cnt hσ k h1 hk x
      · rw [dual_kth σ hσ k h1 hk, ← dual_kth τ hτ k h1 hk]
        refine le_trans (Finset.sum_le_sum fun i _ => ?_) (le_dual d σ k _ ((h0 _).trans (hfd _)))
        split_ifs
        · exact hfd _
        · exact le_rfl
    · refine ⟨0, le_rfl, hs0, fun x hx _ => ⟨fun h => ?_, fun h => absurd h (not_lt.mpr hx)⟩, ?_⟩
      · have : cnt f x ≤ n := (Finset.card_le_univ _).trans (by simp)
        omega
      · unfold dual
        rw [mul_zero, add_zero, ← Equiv.sum_comp τ fun i => max (f i - 0) 0]
        refine Finset.sum_le_sum fun i _ => ?_
        rw [if_pos (by have := i.isLt; omega), sub_zero, max_eq_left (h0 _)]
        exact hfd _

/-- The least of the values kept (the greatest value where none is), where more are asked for than there are only beside a value 0: the halvings of
[0, greatest value] compare with it. -/
theorem least_kept (h0 : ∀ i, 0 ≤ f i) (σ : Equiv.Perm (Fin n)) (hσ : Antitone fun i => f (σ i)) (z : Fin n) (hz : z.val = 0) (k : ℕ) (hk0 : n < k → ∃ i, f i = 0) :
    ∃ κ : ℝ, 0 ≤ κ ∧ κ ≤ f (σ z) ∧ (∀ i : Fin n, i.val < k → κ ≤ f (σ i)) ∧ ((∃ i : Fin n, i.val < k ∧ κ = f (σ i)) ∨ (¬ z.val < k ∧ κ = f (σ z)))
      ∧ ∀ x : ℝ, 0 ≤ x → x < f (σ z) → (k ≤ cnt f x ↔ x < κ) := by
  have hle : ∀ i, f (σ i) ≤ f (σ z) := fun i => hσ (Fin.le_def.mpr (by omega))
  rcases Nat.eq_zero_or_pos k with rfl | h1
  · exact ⟨f (σ z), h0 _, le_rfl, fun i hi => absurd hi (Nat.not_lt_zero _), .inr ⟨Nat.not_lt_zero _, rfl⟩, fun x _ hx => ⟨fun _ => hx, fun _ => Nat.zero_le _⟩⟩
  · by_cases hk : k - 1 < n
    · refine ⟨f (σ ⟨k - 1, hk⟩), h0 _, hle _, fun i hi => hσ (Fin.le_def.mpr (by simp only; omega)), .inl ⟨⟨k - 1, hk⟩, by simp only; omega, rfl⟩, fun x _ _ => ?_⟩
      have : cnt f x = cnt (fun i => f (σ i)) x := by
        unfold cnt
        rw [Finset.card_filter, Finset.card_filter]
        exact (Equiv.sum_comp σ fun i => if x < f i then 1 else 0).symm
      rw [this]
      exact le_cnt hσ k h1 hk x
    · obtain ⟨i, hi⟩ := hk0 (by omega)
      refine ⟨0, le_rfl, h0 _, fun i _ => h0 _, .inl ⟨σ.symm i, by have := (σ.symm i).isLt; omega, by rw [Equiv.apply_symm_apply, hi]⟩, fun x hx _ => ⟨fun h => ?_, fun h => absurd h (not_lt.mpr hx)⟩⟩
      have : cnt f x ≤ n := (Finset.card_le_univ _).trans (by simp)
      omega

end Cert.Halving

end
-- ==== Proof.Clip.lean ====
/-
  What the reference's upper clip is worth: its entropy of an anchor is no less than the kernel's, and greater by at most
  81 / (2²³ - 1).
-/
module

public import proofs.«01_k».proof.Proof.Ent

@[expose] public section

set_option maxRecDepth 16384

noncomputable section

namespace Cert.ReferenceIdeal.Ref

open Cert.ReferenceIdeal Cert.ReferenceIdeal.Gen Cert.Cells
open Idealize.ShloMosaic Idealize.ShloMosaic.Tactic

/-- What the upper clip adds to a class's share of an entropy at most, and to an anchor's entropy. -/
def worth : ℝ := 1 / (2 ^ 23 - 1)
def clipped : ℝ := 81 * worth

theorem clipped_nonneg : 0 ≤ clipped := by unfold clipped worth; norm_num

/-- The logarithm with the upper clip and without. -/
theorem log_clip (b : ℝ) (hb : 0 < b) (h1 : b ≤ 1) :
    -Real.log b ≤ -Real.log (min (16777214 / 2 ^ 24) b) ∧ -Real.log (min (16777214 / 2 ^ 24) b) ≤ -Real.log b + worth := by
  have hc : (0 : ℝ) < 16777214 / 2 ^ 24 := by norm_num
  refine ⟨neg_le_neg (Real.log_le_log (lt_min hc hb) (min_le_right _ _)), ?_⟩
  rcases le_total b (16777214 / 2 ^ 24) with h | h
  · rw [min_eq_right h]
    have : 0 ≤ worth := by unfold worth; norm_num
    linarith
  · rw [min_eq_left h]
    have h2 := Real.one_sub_inv_le_log_of_pos hc
    have h3 := Real.log_nonpos hb.le h1
    have h4 : (1 : ℝ) - (16777214 / 2 ^ 24)⁻¹ = -worth := by unfold worth; norm_num
    linarith

variable {p g : FVec Ideal S16x8732x85 .f32}

theorem log_coe (b : ℝ) (hb : 0 < b) : Ideal.log (b : EReal) = ((Real.log b : ℝ) : EReal) := by
  show (if b ≤ 0 then (⊥ : EReal) else ((Real.log b : ℝ) : EReal)) = _
  rw [if_neg (not_le.mpr hb)]

/-- A class's shares. -/
theorem share (h : Good p g) (r : Fin 16) (n : Fin 8732) (x : Fin 81) : ∃ y z : ℝ, Ideal.log (max (own p g r n x) eps) = (y : EReal)
    ∧ Ideal.log (min (Ideal.ofBits .f32 1065353214#32) (max (own p g r n x) eps)) = (z : EReal) ∧ -y ≤ -z ∧ -z ≤ -y + worth := by
  have h2 : Ideal.ofBits .f32 1065353214#32 = ((16777214 / 2 ^ 24 : ℝ) : EReal) := by
    simp [Ideal.ofBits, Ideal.ieee, -EReal.coe_mul]
    norm_num
  obtain ⟨e, he, he0, he1, -⟩ := eps_real
  obtain ⟨a, ha, ha1⟩ := own_real h r n x
  have hb : 0 < max a e := lt_max_of_lt_right he0
  have hm : min ((16777214 / 2 ^ 24 : ℝ) : EReal) ((max a e : ℝ) : EReal) = ((min (16777214 / 2 ^ 24) (max a e) : ℝ) : EReal) :=
    (EReal.coe_strictMono.monotone.map_min).symm
  obtain ⟨i, j⟩ := log_clip (max a e) hb (max_le ha1 he1)
  refine ⟨_, _, ?_, ?_, i, j⟩
  · rw [ha, he, ← coe_max, log_coe _ hb]
  · rw [ha, he, ← coe_max, h2, hm, log_coe _ (lt_min (by norm_num) hb)]

/-- An anchor's two entropies. -/
theorem ent_near (h : Good p g) (r : Fin 16) (n : Fin 8732) : ∃ y z : ℝ, ent p g r n = (y : EReal) ∧ entV p g (ix2 r n) = (z : EReal)
    ∧ y ≤ z ∧ z ≤ y + clipped := by
  have e0 : entV p g (ix2 r n) = ∑ x : Fin 81, g (ix3 r n (⟨x.val, by omega⟩ : Fin 85)) * -Ideal.log (min (Ideal.ofBits .f32 1065353214#32) (max eps (p (ix3 r n (⟨x.val, by omega⟩ : Fin 85)))))
      + ∑ x : Fin 81, (1 - g (ix3 r n (⟨x.val, by omega⟩ : Fin 85))) * -Ideal.log (min (Ideal.ofBits .f32 1065353214#32) (max eps (1 - p (ix3 r n (⟨x.val, by omega⟩ : Fin 85))))) := by
    pointwise [entV, clip, fill3, cls, eps]
  obtain ⟨w, hw, -, hs⟩ := ent_real h r n
  choose y z hy hz h1 h2 using share h r n
  have e1 : entV p g (ix2 r n) = ∑ x : Fin 81, -Ideal.log (min (Ideal.ofBits .f32 1065353214#32) (max (own p g r n x) eps)) := by
    rw [e0, ← Finset.sum_add_distrib]
    refine Finset.sum_congr rfl fun x _ => ?_
    unfold own
    rcases h.label (ix3 r n (⟨x.val, by omega⟩ : Fin 85)) with e | e
    · rw [e, if_neg (not_lt.mpr half_pos.le), zero_mul, zero_add, sub_zero, one_mul, max_comm]
    · rw [e, if_pos half_lt_one, one_mul, show (1 : EReal) - 1 = 0 from by rw [← EReal.coe_one, ← EReal.coe_sub, sub_self, EReal.coe_zero], zero_mul, add_zero, max_comm]
  simp only [hy, ← EReal.coe_neg] at hs
  rw [← coe_sum, EReal.coe_eq_coe_iff] at hs
  simp only [hz, ← EReal.coe_neg] at e1
  rw [← coe_sum] at e1
  refine ⟨w, _, hw, e1, ?_, ?_⟩
  · rw [← hs]
    exact Finset.sum_le_sum fun x _ => h1 x
  · rw [← hs]
    refine (Finset.sum_le_sum fun x _ => h2 x).trans ?_
    rw [Finset.sum_add_distrib, Finset.sum_const, Finset.card_univ, Fintype.card_fin, nsmul_eq_mul]
    unfold clipped
    norm_num

/-- What the reference sorts, and what the kernel keeps. -/
theorem neg_near (h : Good p g) (r : Fin 16) : ∃ d : Fin 8732 → ℝ, (∀ n, negV p g (ix2 r n) = (d n : EReal)) ∧ (∀ n, neg p g r n ≤ d n) ∧ ∀ n, d n ≤ neg p g r n + clipped := by
  choose y z hy hz h1 h2 using ent_near h r
  have e : ∀ n, negV p g (ix2 r n) = ((if Pos g r n then 0 else z n : ℝ) : EReal) := fun n => by
    have : negV p g (ix2 r n) = Scalar.select (posV g (ix2 r n)) 0 (entV p g (ix2 r n)) := by pointwise [negV, fill]
    rw [this, select_posV h, hz]
    split_ifs <;> rfl
  refine ⟨_, e, fun n => ?_, fun n => ?_⟩ <;> unfold neg <;> rw [hy, EReal.toReal_coe] <;> split_ifs
  · exact le_rfl
  · exact h1 n
  · linarith [clipped_nonneg]
  · exact h2 n

/-- The two sums over a row's positives. -/
theorem pos_near (h : Good p g) (r : Fin 16) : ∃ y z : ℝ, acc g (ent p g) 9 r = (y : EReal) ∧ (∑ n : Fin 8732, if Pos g r n then entV p g (ix2 r n) else 0) = (z : EReal)
    ∧ y ≤ z ∧ z ≤ y + npos g r * clipped := by
  choose y z hy hz h1 h2 using ent_near h r
  refine ⟨∑ n, if Pos g r n then y n else 0, ∑ n, if Pos g r n then z n else 0, ?_, ?_, Finset.sum_le_sum fun n _ => ?_, ?_⟩
  · rw [acc_all, coe_sum]
    refine Finset.sum_congr rfl fun n _ => ?_
    rw [hy]
    split_ifs <;> rfl
  · rw [coe_sum]
    refine Finset.sum_congr rfl fun n _ => ?_
    rw [hz]
    split_ifs <;> rfl
  · split_ifs
    · exact h1 n
    · exact le_rfl
  · have : (npos g r : ℝ) * clipped = ∑ n, if Pos g r n then clipped else 0 := by
      unfold npos
      rw [← Finset.sum_filter, Finset.sum_const, nsmul_eq_mul]
    rw [this, ← Finset.sum_add_distrib]
    refine Finset.sum_le_sum fun n _ => ?_
    split_ifs
    · exact h2 n
    · linarith

end Cert.ReferenceIdeal.Ref

end
-- ==== Proof.Near.lean ====
/-
  On every input in range with a positive: how far the kernel's confidence loss and total are from the reference's.
-/
module

public import proofs.«01_k».proof.Proof.Gen.Post_near_reference
public import proofs.«01_k».proof.Proof.Mining
public import proofs.«01_k».proof.Proof.Mask
public import proofs.«01_k».proof.Proof.Dual
public import proofs.«01_k».proof.Proof.Clip
public import proofs.«01_k».proof.Proof.Equation

@[expose] public section

set_option maxRecDepth 16384

noncomputable section

namespace Cert.ReferenceIdeal.Ref

open Cert.ReferenceIdeal Cert.ReferenceIdeal.Gen Cert.ReferenceIdeal.Facts Cert.Cells
open Idealize.ShloMosaic Idealize.ShloMosaic.Tactic

variable (p g : FVec Ideal S16x8732x85 .f32)

/-- Half a cell of a row for each of its anchors, or of the negatives it asks for if these are more. -/
def slackV : FVec Ideal S16 .f32 :=
  mulf (sitofp .f32 (maxsi (hardV g) (broadcastInDim S16 ![] bcast_S_S16 (constantI S_ 32 8732#32)))) (mulf (topV p g) (fill1 0x33000000#32))
/-- The rows' together, over the number of positives. -/
def overV : FVec Ideal S_ .f32 :=
  Host.divf (Host.reduceAdd (slackV p g) (constant S_ .f32 0x00000000#32) Cert.Post_near_reference.Gen.reducesTo_S16_S_d0 h_S_) (totV g)
/-- No positives, or two values near enough. -/
def nearV (x y : FVec Ideal S_ .f32) : IVec S_ 1 :=
  ori (cmpf .oeq (totV g) (constant S_ .f32 0x00000000#32))
    (andi (cmpf .ole x (addf y (overV p g))) (cmpf .ole y (addf x (constant S_ .f32 0x3827C5AC#32))))

theorem post_eq (a b l : FVec Ideal S_ .f32) :
    Cert.Post_near_reference.fn (F := Ideal) p g a b l = (nearV p g b (lossConf p g), nearV p g a (lossAll p g)) := rfl

variable {p g}

/-- A row's allowance. -/
theorem slackV_at (h : Good p g) (r : Fin 16) (s : ℝ) (hs : topV p g (ix1 r) = (s : EReal)) :
    slackV p g (ix1 r) = (((max (npos g r * 3) 8732 : ℕ) * (s / 2 ^ 24 / 2) : ℝ) : EReal) := by
  have e : slackV p g (ix1 r) = FloatOps.sitofp (F := Ideal) .f32 (IntOp.maxsi (IntOp.muli (nposV g (ix1 r)) 3#32) 8732#32)
      * (topV p g (ix1 r) * Ideal.ofBits .f32 855638016#32) := by pointwise [slackV, fill1, hardV]
  have h2 : Ideal.ofBits FTy.f32 855638016#32 = ((1 / 2 ^ 25 : ℝ) : EReal) := by
    simp [Ideal.ofBits, Ideal.ieee, -EReal.coe_mul, -EReal.coe_pow]
    norm_num
  have hn := npos_le g r
  have hm : IntOp.maxsi (BitVec.ofNat 32 (npos g r * 3)) 8732#32 = BitVec.ofNat 32 (max (npos g r * 3) 8732) := by
    have hl : (8732#32).slt (BitVec.ofNat 32 (npos g r * 3)) = decide (8732 < npos g r * 3) := by
      show decide ((BitVec.ofNat 32 8732).toInt < (BitVec.ofNat 32 (npos g r * 3)).toInt) = _
      rw [toInt_ofNat _ (by omega), toInt_ofNat _ (by omega)]
      simp only [Nat.cast_lt]
    unfold IntOp.maxsi
    rw [hl]
    by_cases hk : 8732 < npos g r * 3
    · rw [decide_eq_true hk, max_eq_left hk.le]; rfl
    · rw [decide_eq_false hk, max_eq_right (not_lt.mp hk)]; rfl
  rw [e, hard_at h, hm, sitofp_ofNat _ (by omega), hs, h2, ← EReal.coe_mul, ← EReal.coe_mul, EReal.coe_eq_coe_iff]
  norm_num
  left
  ring

/-- The allowance over the rows. -/
theorem overV_at (i : S_.Idx) : overV p g i = Ideal.div (∑ r : Fin 16, slackV p g (ix1 r)) (totV g i) := by
  pointwise [overV]

/-- The allowance for the upper clip. -/
def least : EReal := Ideal.ofBits .f32 942130604#32

theorem least_real : ∃ e : ℝ, least = (e : EReal) ∧ 4 * clipped ≤ e := by
  refine ⟨10995116 / 2 ^ 38, ?_, ?_⟩
  · simp [least, Ideal.ofBits, Ideal.ieee, -EReal.coe_mul]
    norm_num
  · unfold clipped worth
    norm_num

/-- Near enough, at the index. -/
theorem nearV_of (x y : FVec Ideal S_ .f32) (i : S_.Idx) (h : totV g i ≠ 0 → x i ≤ y i + overV p g i ∧ y i ≤ x i + least) : nearV p g x y i = 1#1 := by
  have e : nearV p g x y i = IntOp.ori (BitVec.ofBool (decide (totV g i = 0))) (IntOp.andi (BitVec.ofBool (decide (x i ≤ y i + overV p g i))) (BitVec.ofBool (decide (y i ≤ x i + least)))) := by
    pointwise [nearV, least]
  rw [e, andi_ofBool, ori_ofBool, ofBool_one]
  by_cases h0 : totV g i = 0
  · simp [h0]
  · simp [h h0]

end Cert.ReferenceIdeal.Ref

namespace Cert.Equation

open Cert.KernelIdeal Cert.KernelIdeal.Gen Cert.KernelIdeal.Body Cert.KernelIdeal.Run Cert.KernelIdeal.Fetch Cert.Cells Cert.Halving Cert.Mining
open Cert.ReferenceIdeal.Ref (neg negV descV entV topV slackV overV nearV least clipped lossPos lossNeg lossConf lossLoc lossAll totV)
open Idealize.ShloMosaic Idealize.ShloMosaic.Tactic

variable {m : (ℓ : Loc nD τ sig) → Buf (Elt Ideal) ℓ} {c : Dev nD}

/-- What the kernel's last formula makes of a row, beside the sum of the entropies the reference keeps. -/
theorem row_near (h : Good (argP m c) (argG m c)) (r : Fin 16)
    (M : EReal) (hM : M = half * ((bis (entF m c) (rowF m c fun _ _ => 1)).1 (ix2 r (0 : Fin 1)) + (bis (entF m c) (rowF m c fun _ _ => 1)).2 (ix2 r (0 : Fin 1)))) :
    ∃ b t u : ℝ, above (entF m c) r M + (need (rowF m c fun _ _ => 1) r - count (entF m c) r M) * M = (b : EReal)
      ∧ (∑ n : Fin 8732, if n.val < npos (argG m c) r * 3 then descV (argP m c) (argG m c) (ix2 r n) else 0) = (t : EReal)
      ∧ slackV (argP m c) (argG m c) (ix1 r) = (u : EReal) ∧ t ≤ b + 3 * npos (argG m c) r * clipped ∧ b ≤ t + u := by
  obtain ⟨σ, hσ, hdesc⟩ := Cert.ReferenceIdeal.Ref.descV_row (argP m c) (argG m c) r
  obtain ⟨d, hneg, hfd, hdf⟩ := Cert.ReferenceIdeal.Ref.neg_near h r
  have hneed : need (rowF m c fun _ _ => 1) r = (((npos (argG m c) r * 3 : ℕ) : ℝ) : EReal) := by
    rw [need_at, show rowF m c (fun _ _ => 1) (ix2 r (0 : Fin 1)) = acc (argG m c) (fun _ _ => 1) 9 r from rfl, acc_one, ← EReal.coe_mul]
    congr 1
    push_cast
    ring
  have h0 := fun n => Cert.ReferenceIdeal.Ref.neg_nonneg' h r n
  generalize hf : neg (argP m c) (argG m c) r = f at hfd hdf h0
  have hd : ∀ n, descV (argP m c) (argG m c) (ix2 r n) = ((d (σ n) : ℝ) : EReal) := fun n => (hσ n).trans (hneg _)
  have hanti : Antitone fun n => d (σ n) := fun i j hij => by
    have := hdesc i j hij
    rw [hd, hd, EReal.coe_le_coe_iff] at this
    exact this
  obtain ⟨z, hz⟩ : ∃ z : Fin 8732, z.val = 0 := ⟨⟨0, by norm_num⟩, rfl⟩
  have hle : ∀ n, d n ≤ d (σ z) := fun n => by
    have := hanti (show z ≤ σ.symm n from Fin.le_def.mpr (by omega))
    simpa using this
  have hT : topV (argP m c) (argG m c) (ix1 r) = ((d (σ z) : ℝ) : EReal) :=
    Cert.ReferenceIdeal.Ref.topV_at r _ (fun n => by rw [hneg, EReal.coe_le_coe_iff]; exact hle n) ⟨σ z, hneg _⟩
  obtain ⟨ρ, hρ⟩ := exists_falling f
  have hlf : ∀ n, f n ≤ f (ρ z) := fun n => by
    have := hρ (show z ≤ ρ.symm n from Fin.le_def.mpr (by omega))
    simpa using this
  have hK := top_at h r (f (ρ z)) (by rw [hf]; exact hlf) ⟨ρ z, by rw [hf]⟩
  have hsd : f (ρ z) ≤ d (σ z) := (hfd _).trans (hle _)
  have hs0 := h0 (ρ z)
  generalize f (ρ z) = s at hlf hK hsd hs0
  obtain ⟨κ, hκ0, hκs, hκ, hdual⟩ := exists_kth h0 hfd σ hanti (npos (argG m c) r * 3) s hs0 hlf
  obtain ⟨x, y, a, hx, hy, hc⟩ := bis_at (cond := 0 < s) (entF m c) (rowF m c fun _ _ => 1) hs0 id (fun _ => hκs) hK (fun _ x hx hxs => by
    rw [hneed, count_at h r x hx, hf, EReal.coe_le_coe_iff, Nat.cast_le]
    exact hκ x hx hxs)
  have ht0 := hc.mid_nonneg hs0
  have hnear : |1 / 2 * (x + y) - κ| ≤ s / 2 ^ 24 / 2 := by
    rcases eq_or_lt_of_le hs0 with e | e
    · subst e
      rw [hc.mid_zero, le_antisymm hκs hκ0]
      simp
    · exact hc.near hκ0 e
  rw [hx, hy, half_mid] at hM
  generalize 1 / 2 * (x + y) = t at hM ht0 hnear
  refine ⟨dual f (npos (argG m c) r * 3) t, ∑ n : Fin 8732, if n.val < npos (argG m c) r * 3 then d (σ n) else 0, _, ?_, ?_,
    Cert.ReferenceIdeal.Ref.slackV_at h r _ hT, ?_, ?_⟩
  · rw [hM, above_at h, count_at h r t ht0, hneed, hf, ← EReal.coe_sub, ← EReal.coe_mul, ← EReal.coe_add, dual_eq]
  · rw [coe_sum]
    refine Finset.sum_congr rfl fun n _ => ?_
    rw [hd]
    split_ifs <;> rfl
  · refine (le_dual d σ _ (t + clipped) (add_nonneg ht0 Cert.ReferenceIdeal.Ref.clipped_nonneg)).trans ((dual_shift f d _ t clipped hdf).trans (le_of_eq ?_))
    push_cast
    ring
  · refine (dual_near f _ t κ).trans (add_le_add hdual (mul_le_mul_of_nonneg_left (hnear.trans ?_) (Nat.cast_nonneg _)))
    have : s / 2 ^ 24 ≤ d (σ z) / 2 ^ 24 := div_le_div_of_nonneg_right hsd (by positivity)
    linarith

/-- Division of reals by a real other than 0. -/
theorem div_coe (a b : ℝ) (hb : b ≠ 0) : Ideal.div (a : EReal) (b : EReal) = ((a / b : ℝ) : EReal) := by
  unfold Ideal.div
  rw [if_neg (by exact_mod_cast hb), div_eq_mul_inv a]
  simp only [EReal.coe_mul, EReal.coe_inv]

/-- The confidence losses, where there are positives. -/
theorem conf_near (m : (ℓ : Loc nD τ sig) → Buf (Elt Ideal) ℓ) (c : Dev nD) (h : Good (argP m c) (argG m c)) (i : Cert.ReferenceIdeal.S_.Idx) (hT : totV (argG m c) i ≠ 0) :
    scal (resConf m c) i ≤ lossConf (argP m c) (argG m c) i + overV (argP m c) (argG m c) i ∧ lossConf (argP m c) (argG m c) i ≤ scal (resConf m c) i + least := by
  have e : lossConf (argP m c) (argG m c) i = Ideal.div (lossPos (argP m c) (argG m c) i + lossNeg (argP m c) (argG m c) i) (totV (argG m c) i) := by
    pointwise [lossConf]
  choose y z hy hz hyz hzy using fun r => Cert.ReferenceIdeal.Ref.pos_near h r
  choose b t u hb ht hu htb hbt using fun r => row_near h r _ rfl
  obtain ⟨w, hw, hw4⟩ := Cert.ReferenceIdeal.Ref.least_real
  have hN : totV (argG m c) i = ((∑ r : Fin 16, (npos (argG m c) r : ℝ) : ℝ) : EReal) := by
    rw [Cert.ReferenceIdeal.Ref.totV_at h, coe_sum]
  have hN0 : 0 < ∑ r : Fin 16, (npos (argG m c) r : ℝ) := lt_of_le_of_ne (Finset.sum_nonneg fun _ _ => Nat.cast_nonneg _) fun e => hT (by rw [hN, ← e, EReal.coe_zero])
  have hk : scal (resConf m c) i = (((∑ r, y r + ∑ r, b r) / ∑ r : Fin 16, (npos (argG m c) r : ℝ) : ℝ) : EReal) := by
    rw [resConf_at, pay22_at]
    simp only [hy, hb]
    rw [← coe_sum, ← coe_sum, ← coe_sum, ← EReal.coe_add, div_coe _ _ hN0.ne']
  have hr : lossConf (argP m c) (argG m c) i = (((∑ r, z r + ∑ r, t r) / ∑ r : Fin 16, (npos (argG m c) r : ℝ) : ℝ) : EReal) := by
    rw [e, Cert.ReferenceIdeal.Ref.lossPos_at h, lossNeg_at h, hN]
    simp only [hz, ht]
    rw [← coe_sum, ← coe_sum, ← EReal.coe_add, div_coe _ _ hN0.ne']
  have ho : overV (argP m c) (argG m c) i = (((∑ r, u r) / ∑ r : Fin 16, (npos (argG m c) r : ℝ) : ℝ) : EReal) := by
    rw [Cert.ReferenceIdeal.Ref.overV_at, hN]
    simp only [hu]
    rw [← coe_sum, div_coe _ _ hN0.ne']
  have s1 : ∑ r, y r ≤ ∑ r, z r := Finset.sum_le_sum fun r _ => hyz r
  have s2 : ∑ r, z r ≤ ∑ r, y r + (∑ r : Fin 16, (npos (argG m c) r : ℝ)) * clipped := by
    rw [Finset.sum_mul, ← Finset.sum_add_distrib]
    exact Finset.sum_le_sum fun r _ => hzy r
  have s3 : ∑ r, b r ≤ ∑ r, t r + ∑ r, u r := by
    rw [← Finset.sum_add_distrib]
    exact Finset.sum_le_sum fun r _ => hbt r
  have s4 : ∑ r, t r ≤ ∑ r, b r + 3 * (∑ r : Fin 16, (npos (argG m c) r : ℝ)) * clipped := by
    rw [Finset.mul_sum, Finset.sum_mul, ← Finset.sum_add_distrib]
    exact Finset.sum_le_sum fun r _ => htb r
  rw [hk, hr, ho, hw, ← EReal.coe_add, ← EReal.coe_add, EReal.coe_le_coe_iff, EReal.coe_le_coe_iff, ← add_div]
  generalize (∑ r : Fin 16, (npos (argG m c) r : ℝ)) = N at hN0 s2 s4
  refine ⟨div_le_div_of_nonneg_right (by linarith) hN0.le, ?_⟩
  rw [div_le_iff₀ hN0, add_mul, div_mul_cancel₀ _ hN0.ne']
  have := mul_le_mul_of_nonneg_right hw4 hN0.le
  linarith

/-- The kernel's first two results are near enough to the reference's. -/
theorem near (m : (ℓ : Loc nD τ sig) → Buf (Elt Ideal) ℓ) (c : Dev nD) (h : Good (argP m c) (argG m c)) :
    nearV (argP m c) (argG m c) (scal (resConf m c)) (lossConf (argP m c) (argG m c)) = (fun _ => 1#1)
    ∧ nearV (argP m c) (argG m c) (scal (resAll m c)) (lossAll (argP m c) (argG m c)) = (fun _ => 1#1) := by
  refine ⟨funext fun i => Cert.ReferenceIdeal.Ref.nearV_of _ _ i fun hT => conf_near m c h i hT, funext fun i => Cert.ReferenceIdeal.Ref.nearV_of _ _ i fun hT => ?_⟩
  have e : lossAll (argP m c) (argG m c) i = lossConf (argP m c) (argG m c) i + lossLoc (argP m c) (argG m c) i := by
    pointwise [lossAll]
  obtain ⟨h1, h2⟩ := conf_near m c h i hT
  rw [resAll_at, e, resLoc_at, ← Cert.ReferenceIdeal.Ref.lossLoc_at h i]
  constructor
  · rw [add_right_comm]
    exact add_le_add h1 le_rfl
  · rw [add_right_comm]
    exact add_le_add h2 le_rfl

end Cert.Equation

end
-- ==== Proof.Threshold.lean ====
/-
  The reference that adds up the hard negatives by a threshold: its run, and its steps at an index.
-/
module

public import proofs.«01_k».proof.Proof.Gen.ThresholdReferenceIdeal
public import proofs.«01_k».proof.Proof.Gen.ThresholdReferenceIdeal.Run
public import proofs.«01_k».proof.Proof.Gen.Post_near_reference
public import proofs.«01_k».proof.Proof.Mask
public import proofs.«01_k».proof.Proof.Sort
public import proofs.«01_k».proof.Proof.Dual

@[expose] public section

set_option maxRecDepth 16384

noncomputable section

namespace Cert.ThresholdReferenceIdeal.Ref

open Cert.ReferenceIdeal (S_ S16 S16x1 S16x8732 S16x8732x4 S16x8732x81 S16x8732x85)
open Cert.ReferenceIdeal.Gen Cert.Cells Cert.Halving
open Cert.ReferenceIdeal.Ref (fill fill1 fill3 cls posV nposV hardV keepV totV lossLoc neg own)
open Idealize.ShloMosaic Idealize.ShloMosaic.Tactic Idealize.SL.Sem
open Idealize.ShloMosaic.TcCoe

variable (p g : FVec Ideal S16x8732x85 .f32)

/-- The anchors' entropies, clipped from below. -/
def entT : FVec Ideal S16x8732 .f32 :=
  addf (Host.reduceAdd (mulf (cls g) (Host.negf (Host.log (maximumf (cls p) (fill3 0x33D6BF95#32))))) (constant S_ .f32 0x00000000#32) reducesTo_S16x8732x81_S16x8732_d2 h_S_)
    (Host.reduceAdd (mulf (subf (fill3 0x3F800000#32) (cls g)) (Host.negf (Host.log (maximumf (subf (fill3 0x3F800000#32) (cls p)) (fill3 0x33D6BF95#32))))) (constant S_ .f32 0x00000000#32)
      reducesTo_S16x8732x81_S16x8732_d2 h_S_)
/-- Those with the positives' replaced by zero. -/
def negT : FVec Ideal S16x8732 .f32 := select (posV g) (fill 0x00000000#32) (entT p g)
/-- Those, each row in falling order. -/
def descT : FVec Ideal S16x8732 .f32 := Host.negf (Host.sort S16x8732 1 Cert.ReferenceIdeal.comparator_f32_d1 (Host.negf (negT p g)))
/-- A row's greatest. -/
def topT : FVec Ideal S16 .f32 := Host.reduce FloatOps.maximumf (negT p g) (constant S_ .f32 0xFF800000#32) reducesTo_S16x8732_S16_d1 h_S_
/-- The least kept. -/
def kthT : FVec Ideal S16 .f32 :=
  Host.reduce FloatOps.minimumf (select (keepV g) (descT p g) (broadcastInDim S16x8732 ![0, 1] bcast_S16x1_S16x8732_0_1 (broadcastInDim S16x1 ![0] bcast_S16_S16x1_0 (topT p g))))
    (constant S_ .f32 0x7F800000#32) reducesTo_S16x8732_S16_d1 h_S_
/-- The middle of the cell that holds it. -/
def thrT : FVec Ideal S16 .f32 :=
  mulf (mulf (addf (maximumf (subf (Host.ceil (Host.divf (mulf (kthT p g) (fill1 0x4B800000#32)) (select (cmpf .ogt (topT p g) (fill1 0x00000000#32)) (topT p g) (fill1 0x3F800000#32))))
    (fill1 0x3F800000#32)) (fill1 0x00000000#32)) (fill1 0x3F000000#32)) (topT p g)) (fill1 0x33800000#32)
/-- A row's sum over its hard negatives. -/
def rowT : FVec Ideal S16 .f32 :=
  addf (Host.reduceAdd (maximumf (subf (negT p g) (broadcastInDim S16x8732 ![0, 1] bcast_S16x1_S16x8732_0_1 (broadcastInDim S16x1 ![0] bcast_S16_S16x1_0 (thrT p g)))) (fill 0x00000000#32))
    (constant S_ .f32 0x00000000#32) reducesTo_S16x8732_S16_d1 h_S_) (mulf (sitofp .f32 (hardV g)) (thrT p g))
/-- The sum over the positives. -/
def posT : FVec Ideal S_ .f32 :=
  Host.reduceAdd (select (posV g) (entT p g) (fill 0x00000000#32)) (constant S_ .f32 0x00000000#32) reducesTo_S16x8732_S_d0_1 h_S_
/-- The confidence loss. -/
def confT : FVec Ideal S_ .f32 :=
  Host.divf (addf (posT p g) (Host.reduceAdd (rowT p g) (constant S_ .f32 0x00000000#32) Cert.Post_near_reference.Gen.reducesTo_S16_S_d0 h_S_)) (totV g)
/-- The total. -/
def allT : FVec Ideal S_ .f32 :=
  addf (mulf (constant S_ .f32 0x3F800000#32) (confT p g)) (mulf (constant S_ .f32 0x3F800000#32) (lossLoc p g))

/-- Every run of this reference ends with the three results at these values, the arguments unchanged and every counter at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v94) = allT (m ((c.tc : Thread nD τ).loc main_arg0)) (m ((c.tc : Thread nD τ).loc main_arg1))
      ∧ r.2.mem ((c.tc : Thread nD τ).loc main_v74) = confT (m ((c.tc : Thread nD τ).loc main_arg0)) (m ((c.tc : Thread nD τ).loc main_arg1))
      ∧ r.2.mem ((c.tc : Thread nD τ).loc main_v91) = lossLoc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans rfl, (h c).2.1.trans rfl, (h c).2.2.1.trans rfl, (h c).2.2.2.1, (h c).2.2.2.2⟩,
      sem_eq_zero_of_no_sems (by decide) r.2⟩)
    (Cert.ThresholdReferenceIdeal.Value.run (F := Ideal) m ρ)

variable {p g}

/-- Its entropy is the kernel's. -/
theorem entT_at (h : Good p g) (r : Fin 16) (n : Fin 8732) : entT p g (ix2 r n) = ent p g r n := by
  have e0 : entT p g (ix2 r n) = ∑ x : Fin 81, g (ix3 r n (⟨x.val, by omega⟩ : Fin 85)) * -Ideal.log (max (p (ix3 r n (⟨x.val, by omega⟩ : Fin 85))) eps)
      + ∑ x : Fin 81, (1 - g (ix3 r n (⟨x.val, by omega⟩ : Fin 85))) * -Ideal.log (max (1 - p (ix3 r n (⟨x.val, by omega⟩ : Fin 85))) eps) := by
    pointwise [entT, fill3, cls, eps]
  obtain ⟨y, hy, -, hs⟩ := Cert.ReferenceIdeal.Ref.ent_real h r n
  rw [e0, hy, ← hs, ← Finset.sum_add_distrib]
  refine Finset.sum_congr rfl fun x _ => ?_
  unfold own
  rcases h.label (ix3 r n (⟨x.val, by omega⟩ : Fin 85)) with e | e
  · rw [e, if_neg (not_lt.mpr half_pos.le), zero_mul, zero_add, sub_zero, one_mul]
  · rw [e, if_pos half_lt_one, one_mul, show (1 : EReal) - 1 = 0 from by rw [← EReal.coe_one, ← EReal.coe_sub, sub_self, EReal.coe_zero], zero_mul, add_zero]

/-- What it sorts is what the kernel keeps. -/
theorem negT_at (h : Good p g) (r : Fin 16) (n : Fin 8732) : negT p g (ix2 r n) = ((neg p g r n : ℝ) : EReal) := by
  have : negT p g (ix2 r n) = Scalar.select (posV g (ix2 r n)) 0 (entT p g (ix2 r n)) := by pointwise [negT, fill]
  obtain ⟨y, hy, hy0, -⟩ := Cert.ReferenceIdeal.Ref.ent_real h r n
  rw [this, Cert.ReferenceIdeal.Ref.select_posV h, entT_at h r n]
  unfold neg
  rw [hy]
  split_ifs <;> rfl

/-- The sum over the positives. -/
theorem posT_at (h : Good p g) (i : S_.Idx) : posT p g i = ∑ r : Fin 16, acc g (ent p g) 9 r := by
  have : posT p g i = ∑ r : Fin 16, ∑ n : Fin 8732, Scalar.select (posV g (ix2 r n)) (entT p g (ix2 r n)) 0 := by
    pointwise [posT, fill]
  rw [this]
  simp only [Cert.ReferenceIdeal.Ref.select_posV h, entT_at h, acc_all]

/-- A row's greatest value. -/
theorem topT_at (r : Fin 16) (s : EReal) (hle : ∀ n, negT p g (ix2 r n) ≤ s) (hs : ∃ n, negT p g (ix2 r n) = s) : topT p g (ix1 r) = s := by
  rw [← Cert.ReferenceIdeal.Ref.fold_max_coe (fun x => negT p g (ix2 r x)) s hle hs]
  pointwise [topT]

/-- The least value kept. -/
theorem kthT_at (h : Good p g) (r : Fin 16) (κ : EReal) (hle : ∀ n : Fin 8732, κ ≤ if n.val < npos g r * 3 then descT p g (ix2 r n) else topT p g (ix1 r))
    (hκ : ∃ n : Fin 8732, (if n.val < npos g r * 3 then descT p g (ix2 r n) else topT p g (ix1 r)) = κ) : kthT p g (ix1 r) = κ := by
  have e : kthT p g (ix1 r) = Finset.fold min (Ideal.ofBits FTy.f32 2139095040#32)
      (fun x => Scalar.select (keepV g (ix2 r x)) (descT p g (ix2 r x)) (topT p g (ix1 r))) Finset.univ := by pointwise [kthT]
  rw [e]
  simp only [Cert.ReferenceIdeal.Ref.select_keepV h]
  exact Cert.ReferenceIdeal.Ref.fold_min_coe _ _ hle hκ

/-- The threshold, over the reals. -/
theorem thrT_at (r : Fin 16) (s κ : ℝ) (hs : 0 ≤ s) (ht : topT p g (ix1 r) = (s : EReal)) (hk : kthT p g (ix1 r) = (κ : EReal)) :
    thrT p g (ix1 r) = (((max ((⌈κ * 2 ^ 24 / (if 0 < s then s else 1)⌉ : ℝ) - 1) 0 + 1 / 2) * s / 2 ^ 24 : ℝ) : EReal) := by
  have e : thrT p g (ix1 r) = (max (Ideal.liftRound Int.ceil (Ideal.div (kthT p g (ix1 r) * Ideal.ofBits FTy.f32 1266679808#32)
      (Scalar.select (BitVec.ofBool (decide (0 < topT p g (ix1 r)))) (topT p g (ix1 r)) 1)) - 1) 0 + half)
      * topT p g (ix1 r) * Ideal.ofBits FTy.f32 864026624#32 := by pointwise [thrT, fill1, ofBits_half]
  have h1 : Ideal.ofBits FTy.f32 1266679808#32 = ((2 ^ 24 : ℝ) : EReal) := by
    simp [Ideal.ofBits, Ideal.ieee, -EReal.coe_mul, -EReal.coe_pow]
    norm_num
  have h2 : Ideal.ofBits FTy.f32 864026624#32 = ((1 / 2 ^ 24 : ℝ) : EReal) := by
    simp [Ideal.ofBits, Ideal.ieee, -EReal.coe_mul, -EReal.coe_pow]
    norm_num
  have h4 : Scalar.select (BitVec.ofBool (decide (0 < (s : EReal)))) (s : EReal) 1 = (((if 0 < s then s else 1) : ℝ) : EReal) := by
    by_cases h0 : 0 < s
    · rw [if_pos h0, decide_eq_true (by exact_mod_cast h0)]; rfl
    · rw [if_neg h0, decide_eq_false (by exact_mod_cast h0)]; rfl
  have h5 : (if 0 < s then s else 1) ≠ 0 := by split_ifs with h0 <;> [exact h0.ne'; norm_num]
  generalize (if 0 < s then s else 1) = w at h4 h5
  have h3 : Ideal.div ((κ * 2 ^ 24 : ℝ) : EReal) (w : EReal) = ((κ * 2 ^ 24 / w : ℝ) : EReal) := by
    unfold Ideal.div
    rw [if_neg (by exact_mod_cast h5), div_eq_mul_inv (κ * 2 ^ 24)]
    simp only [EReal.coe_mul, EReal.coe_inv]
  rw [e, ht, hk, h4, h1, h2, ← EReal.coe_mul, h3, Ideal.liftRound_coe, half_eq, ← EReal.coe_one, ← EReal.coe_zero, ← EReal.coe_sub, ← coe_max, ← EReal.coe_add, ← EReal.coe_mul, ← EReal.coe_mul]
  rw [EReal.coe_eq_coe_iff, one_div (2 ^ 24 : ℝ), ← div_eq_mul_inv]

/-- A row's sum, over the reals. -/
theorem rowT_at (h : Good p g) (r : Fin 16) (t : ℝ) (ht : thrT p g (ix1 r) = (t : EReal)) : rowT p g (ix1 r) = ((dual (neg p g r) (npos g r * 3) t : ℝ) : EReal) := by
  have e : rowT p g (ix1 r) = (∑ n : Fin 8732, max (negT p g (ix2 r n) - thrT p g (ix1 r)) 0)
      + FloatOps.sitofp (F := Ideal) .f32 (IntOp.muli (nposV g (ix1 r)) 3#32) * thrT p g (ix1 r) := by
    pointwise [rowT, fill, hardV]
  have := npos_le g r
  rw [e, Cert.ReferenceIdeal.Ref.hard_at h, Cert.ReferenceIdeal.Ref.sitofp_ofNat _ (by omega), ht]
  simp only [negT_at h, ← EReal.coe_sub, ← EReal.coe_zero, ← coe_max]
  rw [← coe_sum, ← EReal.coe_mul, ← EReal.coe_add]
  rfl

end Cert.ThresholdReferenceIdeal.Ref

end
-- ==== Proof.AtThreshold.lean ====
/-
  The kernel's results on every input in range: those of the reference that adds up the hard negatives by a threshold.
-/
module

public import proofs.«01_k».proof.Proof.Mining
public import proofs.«01_k».proof.Proof.Threshold

@[expose] public section

set_option maxRecDepth 16384

noncomputable section

namespace Cert.AtThreshold

open Cert.KernelIdeal Cert.KernelIdeal.Gen Cert.KernelIdeal.Body Cert.KernelIdeal.Run Cert.KernelIdeal.Fetch Cert.Cells Cert.Halving Cert.Mining
open Cert.ReferenceIdeal.Ref (neg totV lossLoc)
open Cert.ThresholdReferenceIdeal.Ref (negT descT topT kthT thrT rowT posT confT allT)
open Idealize.ShloMosaic Idealize.ShloMosaic.Tactic

variable {m : (ℓ : Loc nD τ sig) → Buf (Elt Ideal) ℓ} {c : Dev nD}

/-- What the kernel's last formula makes of a row. -/
theorem row_eq (h : Good (argP m c) (argG m c)) (r : Fin 16)
    (M : EReal) (hM : M = half * ((bis (entF m c) (rowF m c fun _ _ => 1)).1 (ix2 r (0 : Fin 1)) + (bis (entF m c) (rowF m c fun _ _ => 1)).2 (ix2 r (0 : Fin 1)))) :
    above (entF m c) r M + (need (rowF m c fun _ _ => 1) r - count (entF m c) r M) * M = rowT (argP m c) (argG m c) (ix1 r) := by
  obtain ⟨σ, hσ, hfall⟩ := Cert.ReferenceIdeal.Ref.falling_row (negT (argP m c) (argG m c)) r
  have hneg := Cert.ThresholdReferenceIdeal.Ref.negT_at h r
  have hneed : need (rowF m c fun _ _ => 1) r = (((npos (argG m c) r * 3 : ℕ) : ℝ) : EReal) := by
    rw [need_at, show rowF m c (fun _ _ => 1) (ix2 r (0 : Fin 1)) = acc (argG m c) (fun _ _ => 1) 9 r from rfl, acc_one, ← EReal.coe_mul]
    congr 1
    push_cast
    ring
  have h0 := fun n => Cert.ReferenceIdeal.Ref.neg_nonneg' h r n
  have hzero : 8732 < npos (argG m c) r * 3 → ∃ n, neg (argP m c) (argG m c) r n = 0 := fun hk => by
    have hp : 0 < npos (argG m c) r := by omega
    unfold npos at hp
    obtain ⟨n, hn⟩ := Finset.card_pos.mp hp
    rw [Finset.mem_filter] at hn
    exact ⟨n, if_pos hn.2⟩
  have hrow := Cert.ThresholdReferenceIdeal.Ref.rowT_at (p := argP m c) (g := argG m c) h r
  generalize hf : neg (argP m c) (argG m c) r = f at hneg h0 hzero hrow
  have hd : ∀ n, descT (argP m c) (argG m c) (ix2 r n) = ((f (σ n) : ℝ) : EReal) := fun n => (hσ n).trans (hneg _)
  have hanti : Antitone fun n => f (σ n) := fun i j hij => by
    have := hfall i j hij
    rw [hneg, hneg, EReal.coe_le_coe_iff] at this
    exact this
  obtain ⟨z, hz⟩ : ∃ z : Fin 8732, z.val = 0 := ⟨⟨0, by norm_num⟩, rfl⟩
  have hle : ∀ n, f n ≤ f (σ z) := fun n => by
    have := hanti (show z ≤ σ.symm n from Fin.le_def.mpr (by omega))
    simpa using this
  have hT : topT (argP m c) (argG m c) (ix1 r) = ((f (σ z) : ℝ) : EReal) :=
    Cert.ThresholdReferenceIdeal.Ref.topT_at r _ (fun n => by rw [hneg, EReal.coe_le_coe_iff]; exact hle n) ⟨σ z, hneg _⟩
  have hK := top_at h r (f (σ z)) (by rw [hf]; exact hle) ⟨σ z, by rw [hf]⟩
  obtain ⟨κ, hκ0, hκs, hκle, hκat, hκ⟩ := least_kept h0 σ hanti z hz (npos (argG m c) r * 3) hzero
  have hkth : kthT (argP m c) (argG m c) (ix1 r) = (κ : EReal) := by
    refine Cert.ThresholdReferenceIdeal.Ref.kthT_at h r _ (fun n => ?_) ?_
    · rw [hd, hT]
      split_ifs with hn
      · exact EReal.coe_le_coe_iff.mpr (hκle n hn)
      · exact EReal.coe_le_coe_iff.mpr hκs
    · rcases hκat with ⟨n, hn, e⟩ | ⟨hn, e⟩
      · exact ⟨n, by rw [if_pos hn, hd, e]⟩
      · exact ⟨z, by rw [if_neg hn, hT, e]⟩
  have hthr := Cert.ThresholdReferenceIdeal.Ref.thrT_at r _ _ (h0 (σ z)) hT hkth
  obtain ⟨x, y, a, hx, hy, hc⟩ := bis_at (cond := 0 < f (σ z)) (entF m c) (rowF m c fun _ _ => 1) (h0 (σ z)) id (fun _ => hκs) hK (fun _ x hx hxs => by
    rw [hneed, count_at h r x hx, hf, EReal.coe_le_coe_iff, Nat.cast_le]
    exact hκ x hx hxs)
  have ht0 := hc.mid_nonneg (h0 (σ z))
  have hthr : thrT (argP m c) (argG m c) (ix1 r) = ((1 / 2 * (x + y) : ℝ) : EReal) := by
    rw [hthr, EReal.coe_eq_coe_iff]
    by_cases hs : 0 < f (σ z)
    · rw [if_pos hs, hc.mid_eq hs hκ0 hs]
    · have hs : f (σ z) = 0 := le_antisymm (not_lt.mp hs) (h0 _)
      rw [hs] at hc
      rw [hc.mid_zero, hs, mul_zero, zero_div]
  rw [hrow _ hthr]
  rw [hx, hy, half_mid] at hM
  generalize 1 / 2 * (x + y) = t at hM ht0
  rw [hM, above_at h, count_at h r t ht0, hneed, hf, ← EReal.coe_sub, ← EReal.coe_mul, ← EReal.coe_add, dual_eq]

/-- The confidence losses are equal. -/
theorem conf_eq (m : (ℓ : Loc nD τ sig) → Buf (Elt Ideal) ℓ) (c : Dev nD) (h : Good (argP m c) (argG m c)) (i : Cert.ReferenceIdeal.S_.Idx) :
    scal (resConf m c) i = confT (argP m c) (argG m c) i := by
  have e : confT (argP m c) (argG m c) i = Ideal.div (posT (argP m c) (argG m c) i + ∑ r : Fin 16, rowT (argP m c) (argG m c) (ix1 r)) (totV (argG m c) i) := by
    pointwise [confT]
  rw [resConf_at, e, Cert.ReferenceIdeal.Ref.totV_at h, Cert.ThresholdReferenceIdeal.Ref.posT_at h, pay22_at,
    Finset.sum_congr rfl fun r _ => row_eq h r _ rfl]

/-- The totals are equal. -/
theorem all_eq (m : (ℓ : Loc nD τ sig) → Buf (Elt Ideal) ℓ) (c : Dev nD) (h : Good (argP m c) (argG m c)) (i : Cert.ReferenceIdeal.S_.Idx) :
    scal (resAll m c) i = allT (argP m c) (argG m c) i := by
  have e : allT (argP m c) (argG m c) i = confT (argP m c) (argG m c) i + lossLoc (argP m c) (argG m c) i := by
    pointwise [allT]
  rw [resAll_at, e, conf_eq m c h i, resLoc_at, Cert.ReferenceIdeal.Ref.lossLoc_at h]

end Cert.AtThreshold

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ThresholdReferenceIdeal
public import proofs.«01_k».proof.Proof.Gen.ThresholdReferenceIdeal.Run
public import proofs.«01_k».proof.Proof.Gen.Pre_inputs_in_range
public import proofs.«01_k».proof.Proof.Gen.On_threshold_exact
public import proofs.«01_k».proof.Proof.Gen.Post_near_reference
public import proofs.«01_k».proof.Proof.FrameBits
public import proofs.«01_k».proof.Proof.Out
public import proofs.«01_k».proof.Proof.RefAt
public import proofs.«01_k».proof.Proof.Equation
public import proofs.«01_k».proof.Proof.Near
public import proofs.«01_k».proof.Proof.AtThreshold

@[expose] public section

noncomputable section

namespace Cert.Proof

open Idealize.ShloMosaic Idealize.SL.Sem

/-- The kernel leaves its arguments and every counter as they were. -/
theorem frame_P : Cert.quiescent_Kernel := fun m ρ _ => Cert.Kernel.Run.run m ρ

/-- So does the idealized kernel. -/
theorem frame_PI : Cert.quiescent_KernelIdeal := fun m ρ _ =>
  (θ_run Cert.KernelIdeal.defs _ _).mono (fun _ h => ⟨fun c => ((h.1 c).2.2.2), h.2⟩) (Cert.KernelIdeal.Run.run m ρ)

/-- So does the reference. -/
theorem frame_RI : Cert.quiescent_ReferenceIdeal := fun m ρ _ =>
  (θ_run Cert.ReferenceIdeal.defs _ _).mono (fun _ h => ⟨fun c => ((h.1 c).2.2.2), h.2⟩) (Cert.ReferenceIdeal.Ref.run m ρ)

open Cert.KernelIdeal.Run Cert.KernelIdeal.Fetch in
/-- The localisation losses are equal. -/
theorem loc_eq (m : (ℓ : Loc Cert.KernelIdeal.nD Cert.KernelIdeal.τ Cert.KernelIdeal.sig) → Buf (Elt Ideal) ℓ) (c : Dev Cert.KernelIdeal.nD)
    (h : Cert.Cells.Good (argP m c) (argG m c)) (i : Cert.ReferenceIdeal.S_.Idx) :
    scal (resLoc m c) i = Cert.ReferenceIdeal.Ref.lossLoc (argP m c) (argG m c) i :=
  (resLoc_at m c i).trans (Cert.ReferenceIdeal.Ref.lossLoc_at h i).symm

open Cert.KernelIdeal.Run Cert.KernelIdeal.Fetch Cert.ReferenceIdeal.Ref in
/-- Where each result is claimed the idealized kernel's and the reference's are equal. -/
theorem algebraic : Cert.algebraic_KernelIdeal_ReferenceIdeal_on_threshold_exact_pre_inputs_in_range := fun m ρ m' ρ' hpre hargs => by
  have hg : ∀ c, Cert.Cells.Good (argP m c) (argG m c) := fun c => Cert.Cells.good_of_pre _ _ (hpre c).1 (hpre c).2
  have hr := Cert.ReferenceIdeal.Ref.run m' ρ'
  refine ⟨fun c => scal (resAll m c), fun c => scal (resConf m c), fun c => scal (resLoc m c), ?_, ?_⟩
  · exact (θ_run Cert.KernelIdeal.defs _ _).mono (fun _ h c => ⟨fun i _ => congrFun (h.1 c).1 i, fun i _ => congrFun (h.1 c).2.1 i,
      fun i _ => congrFun (h.1 c).2.2.1 i, (h.1 c).2.2.2⟩) (Cert.KernelIdeal.Run.run m ρ)
  · refine (θ_run Cert.ReferenceIdeal.defs _ _).mono (fun r h c => ?_) hr
    obtain ⟨h0, h1, h2, h3⟩ := h.1 c
    rw [(hargs c).1, (hargs c).2] at h0 h1 h2
    refine ⟨fun i hi => ?_, fun i hi => ?_, fun i _ => ?_, h3⟩
    · exact (congrFun h0 i).trans (Cert.Equation.all_eq m c (hg c) i hi).symm
    · exact (congrFun h1 i).trans (Cert.Equation.conf_eq m c (hg c) i hi).symm
    · exact (congrFun h2 i).trans (loc_eq m c (hg c) i).symm

/-- So does the reference with a threshold. -/
theorem frame_RI2 : Cert.quiescent_ThresholdReferenceIdeal := fun m ρ _ =>
  (θ_run Cert.ThresholdReferenceIdeal.defs _ _).mono (fun _ h => ⟨fun c => ((h.1 c).2.2.2), h.2⟩) (Cert.ThresholdReferenceIdeal.Ref.run m ρ)

open Cert.KernelIdeal.Run Cert.KernelIdeal.Fetch in
/-- On all inputs in range the idealized kernel's results are those of the reference with a threshold. -/
theorem algebraic_threshold : Cert.algebraic_KernelIdeal_ThresholdReferenceIdeal_pre_inputs_in_range := fun m ρ m' ρ' hpre hargs => by
  have hg : ∀ c, Cert.Cells.Good (argP m c) (argG m c) := fun c => Cert.Cells.good_of_pre _ _ (hpre c).1 (hpre c).2
  have hr := Cert.ThresholdReferenceIdeal.Ref.run m' ρ'
  refine ⟨fun c => scal (resAll m c), fun c => scal (resConf m c), fun c => scal (resLoc m c), ?_, ?_⟩
  · exact (θ_run Cert.KernelIdeal.defs _ _).mono (fun _ h c => h.1 c) (Cert.KernelIdeal.Run.run m ρ)
  · refine (θ_run Cert.ThresholdReferenceIdeal.defs _ _).mono (fun r h c => ?_) hr
    obtain ⟨h0, h1, h2, h3⟩ := h.1 c
    rw [(hargs c).1, (hargs c).2] at h0 h1 h2
    exact ⟨h0.trans (funext fun i => (Cert.AtThreshold.all_eq m c (hg c) i).symm), h1.trans (funext fun i => (Cert.AtThreshold.conf_eq m c (hg c) i).symm),
      h2.trans (funext fun i => (loc_eq m c (hg c) i).symm), h3⟩

open Cert.KernelIdeal.Run Cert.KernelIdeal.Fetch in
/-- On all inputs in range the idealized kernel's first two results are near the reference's. -/
theorem near_reference : Cert.holds_KernelIdeal_near_reference_pre_inputs_in_range := fun m ρ hpre =>
  (θ_run Cert.KernelIdeal.defs _ _).mono (fun r h c => by
    obtain ⟨h0, h1, h2, h3, h4⟩ := h.1 c
    have hn := Cert.Equation.near m c (Cert.Cells.good_of_pre _ _ (hpre c).1 (hpre c).2)
    refine ⟨h3, h4, ?_, ?_⟩
    · rw [h0, h1, h2]
      exact hn.1
    · rw [h0, h1, h2]
      exact hn.2) (Cert.KernelIdeal.Run.run m ρ)

theorem claim : Cert.Claim := ⟨Cert.Kernel.Gen.facts, Cert.KernelIdeal.Gen.facts, Cert.ReferenceIdeal.Gen.facts, Cert.ThresholdReferenceIdeal.Gen.facts, Cert.Pre_inputs_in_range.Gen.facts, Cert.Post_near_reference.Gen.facts, Cert.On_threshold_exact.Gen.facts,
  frame_P, frame_PI, fun m ρ _ => frame_PI m ρ trivial, frame_RI, fun m ρ _ => frame_RI m ρ trivial, frame_RI2, fun m ρ _ => frame_RI2 m ρ trivial, trivial, algebraic, algebraic_threshold, near_reference⟩

end Cert.Proof

end
